-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_settled [hKernelIdeal : Cert.KernelIdeal.Facts] [hReferenceIdeal : Cert.ReferenceIdeal.Facts] [hOn_settled : Cert.On_settled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 1024]⟩ ⟨2, ![256, 2048]⟩ (Layout.meshBlock [2, 2] ![[], [0]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 8]⟩ : Shape).Idx, (Cert.On_settled.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![256, 8]⟩ : Shape).Idx, (Cert.On_settled.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v3) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_settled : Cert.On_settled.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_settled (hKernelIdeal := hKernelIdeal) (hReferenceIdeal := hReferenceIdeal) (hOn_settled := hOn_settled)
-- ==== On_settled.lean ====
abbrev S256x2048 : Shape := ⟨2, ![256, 2048]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩
abbrev S256x1 : Shape := ⟨2, ![256, 1]⟩

class Facts : Prop where
  slices_S256x2048_S256x8_0_0 : S256x2048.Slices ![0, 0] S256x8
  bcast_S_S256x8 : S_.BroadcastsInDim S256x8 (![] : Fin 0 → Fin S256x8.rank)
  shapeCasts_S256x8_S256x8x1 : S256x8.ShapeCasts S256x8x1
  bcast_S_S256x8x1 : S_.BroadcastsInDim S256x8x1 (![] : Fin 0 → Fin S256x8x1.rank)
  bcast_S1_S1x1x1_2 : S1.BroadcastsInDim S1x1x1 (![2] : Fin 1 → Fin S1x1x1.rank)
  bcast_S1x1x1_S256x8x1_0_1_2 : S1x1x1.BroadcastsInDim S256x8x1 (![0, 1, 2] : Fin 3 → Fin S256x8x1.rank)
  reducesTo_S256x8x1_S256x8_d2 : S256x8x1.ReducesTo [2] S256x8
  h_S_ : 0 < S_.numel
  bcast_S_S256x1 : S_.BroadcastsInDim S256x1 (![] : Fin 0 → Fin S256x1.rank)
  slices_S256x8_S256x1_0_0 : S256x8.Slices ![0, 0] S256x1
  slices_S256x8_S256x1_0_1 : S256x8.Slices ![0, 1] S256x1
  slices_S256x8_S256x1_0_2 : S256x8.Slices ![0, 2] S256x1
  slices_S256x8_S256x1_0_3 : S256x8.Slices ![0, 3] S256x1
  slices_S256x8_S256x1_0_4 : S256x8.Slices ![0, 4] S256x1
  slices_S256x8_S256x1_0_5 : S256x8.Slices ![0, 5] S256x1
  slices_S256x8_S256x1_0_6 : S256x8.Slices ![0, 6] S256x1
  slices_S256x8_S256x1_0_7 : S256x8.Slices ![0, 7] S256x1
  concatenates_S256x1_S256x1_S256x1_S256x1_S256x1_S256x1_S256x1_S256x1_S256x8_d1 : Shape.Concatenates [S256x1, S256x1, S256x1, S256x1, S256x1, S256x1, S256x1, S256x1] S256x8 1
  gather_S256x2048_S256x8x1_S256x8_n_1_0_0_1_2_11_wf : GatherDims.WF S256x2048 S256x8x1 S256x8 [] [1] [0] [1] [0] 2 ![1, 1]

variable [Facts]

variable {F : FTy → Type} [FloatOps F]
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S256x2048_S256x8x1_S256x8_n_1_0_0_1_2_11 : GatherDims S256x2048 S256x8x1 S256x8 where
  offsetDims := []
  collapsedSliceDims := [1]
  operandBatchingDims := [0]
  startIndicesBatchingDims := [0]
  startIndexMap := [1]
  indexVectorDim := 2
  sliceSizes := ![1, 1]
  wf := gather_S256x2048_S256x8x1_S256x8_n_1_0_0_1_2_11_wf

def fn_argsort {F : FTy → Type} [FloatOps F] (arg0 : FVec F S256x2048 .f32) : IVec S256x2048 32 :=
  let v0 : IVec S256x2048 32 := iotaInDim S256x2048 32 1
  let v1_0 : FVec F S256x2048 .f32 := (fun x y => (Host.sort2 S256x2048 1 comparator_f32_i32_d1 x y).1) arg0 v0
  let v1_1 : IVec S256x2048 32 := (fun x y => (Host.sort2 S256x2048 1 comparator_f32_i32_d1 x y).2) arg0 v0
  v1_1

def fn_take_along_axis {F : FTy → Type} [FloatOps F] (arg0 : FVec F S256x2048 .f32) (arg1 : IVec S256x8 32) : FVec F S256x8 .f32 :=
  let c : IVec S_ 32 := constantI S_ 32 0#32
  let v0 : IVec S256x8 32 := broadcastInDim S256x8 ![] bcast_S_S256x8 c
  let v1 : IVec S256x8 1 := cmpi .slt arg1 v0
  let c_0 : IVec S_ 32 := constantI S_ 32 2048#32
  let v2 : IVec S256x8 32 := broadcastInDim S256x8 ![] bcast_S_S256x8 c_0
  let v3 : IVec S256x8 32 := addi arg1 v2
  let v4 : IVec S256x8 32 := select v1 v3 arg1
  let v5 : IVec S256x8x1 32 := shapeCast S256x8x1 v4 shapeCasts_S256x8_S256x8x1
  let c_1 : IVec S1 32 := constantI S1 32 2047#32
  let c_2 : IVec S_ 32 := constantI S_ 32 0#32
  let v6 : IVec S256x8x1 32 := broadcastInDim S256x8x1 ![] bcast_S_S256x8x1 c_2
  let v7 : IVec S256x8x1 1 := cmpi .sge v5 v6
  let v8 : IVec S1x1x1 32 := broadcastInDim S1x1x1 ![2] bcast_S1_S1x1x1_2 c_1
  let v9 : IVec S256x8x1 32 := broadcastInDim S256x8x1 ![0, 1, 2] bcast_S1x1x1_S256x8x1_0_1_2 v8
  let v10 : IVec S256x8x1 1 := cmpi .sle v5 v9
  let v11 : IVec S256x8x1 1 := andi v7 v10
  let c_3 : IVec S_ 1 := constantI S_ 1 1#1
  let v12 : IVec S256x8 1 := (fun x v => Host.reduce IntOp.andi x v reducesTo_S256x8x1_S256x8_d2 h_S_) v11 c_3
  let v13 : FVec F S256x8 .f32 := (fun x i => Host.gather gather_S256x2048_S256x8x1_S256x8_n_1_0_0_1_2_11 x i) arg0 v5
  let cst : FVec F S_ .f32 := constant S_ .f32 0x7FC00000#32
  let v14 : FVec F S256x8 .f32 := broadcastInDim S256x8 ![] bcast_S_S256x8 cst
  let v15 : FVec F S256x8 .f32 := select v12 v13 v14
  v15

def fn_part1 {F : FTy → Type} [FloatOps F] (main_v3 : FVec F S256x8 .f32) (main_v4 : IVec S256x1 1) (main_v8 : IVec S256x1 1) (main_v12 : IVec S256x1 1) (main_v16 : IVec S256x1 1) (main_v20 : IVec S256x1 1) (main_v21 : FVec F S256x1 .f32) (main_v22 : FVec F S256x1 .f32) : IVec S256x8 1 :=
  let main_v23 : IVec S256x1 1 := cmpf .ogt main_v21 main_v22
  let main_v24 : IVec S256x1 1 := andi main_v20 main_v23
  let main_v25 : FVec F S256x1 .f32 := (extractStridedSlice S256x1 ![0, 5] · slices_S256x8_S256x1_0_5) main_v3
  let main_v26 : FVec F S256x1 .f32 := (extractStridedSlice S256x1 ![0, 6] · slices_S256x8_S256x1_0_6) main_v3
  let main_v27 : IVec S256x1 1 := cmpf .ogt main_v25 main_v26
  let main_v28 : IVec S256x1 1 := andi main_v24 main_v27
  let main_v29 : FVec F S256x1 .f32 := (extractStridedSlice S256x1 ![0, 6] · slices_S256x8_S256x1_0_6) main_v3
  let main_v30 : FVec F S256x1 .f32 := (extractStridedSlice S256x1 ![0, 7] · slices_S256x8_S256x1_0_7) main_v3
  let main_v31 : IVec S256x1 1 := cmpf .ogt main_v29 main_v30
  let main_v32 : IVec S256x1 1 := andi main_v28 main_v31
  let main_v33 : IVec S256x8 1 := concatenate S256x8 1 [⟨S256x1, main_v4⟩, ⟨S256x1, main_v8⟩, ⟨S256x1, main_v12⟩, ⟨S256x1, main_v16⟩, ⟨S256x1, main_v20⟩, ⟨S256x1, main_v24⟩, ⟨S256x1, main_v28⟩, ⟨S256x1, main_v32⟩] concatenates_S256x1_S256x1_S256x1_S256x1_S256x1_S256x1_S256x1_S256x1_S256x8_d1
  let main_cst : FVec F S_ .f32 := constant S_ .f32 0xFF800000#32
  let main_v34 : FVec F S256x8 .f32 := broadcastInDim S256x8 ![] bcast_S_S256x8 main_cst
  let main_v35 : IVec S256x8 1 := cmpf .oeq main_v3 main_v34
  let main_v36 : IVec S256x8 1 := ori main_v33 main_v35
  main_v36

def fn {F : FTy → Type} [FloatOps F] (main_arg0 : FVec F S256x2048 .f32) : IVec S256x8 1 :=
  let main_v0 : FVec F S256x2048 .f32 := Host.negf main_arg0
  let main_v1 : IVec S256x2048 32 := fn_argsort (F := F) main_v0
  let main_v2 : IVec S256x8 32 := (extractStridedSlice S256x8 ![0, 0] · slices_S256x2048_S256x8_0_0) main_v1
  let main_v3 : FVec F S256x8 .f32 := fn_take_along_axis (F := F) main_arg0 main_v2
  let main_c : IVec S_ 1 := constantI S_ 1 1#1
  let main_v4 : IVec S256x1 1 := broadcastInDim S256x1 ![] bcast_S_S256x1 main_c
  let main_v5 : FVec F S256x1 .f32 := (extractStridedSlice S256x1 ![0, 0] · slices_S256x8_S256x1_0_0) main_v3
  let main_v6 : FVec F S256x1 .f32 := (extractStridedSlice S256x1 ![0, 1] · slices_S256x8_S256x1_0_1) main_v3
  let main_v7 : IVec S256x1 1 := cmpf .ogt main_v5 main_v6
  let main_v8 : IVec S256x1 1 := andi main_v4 main_v7
  let main_v9 : FVec F S256x1 .f32 := (extractStridedSlice S256x1 ![0, 1] · slices_S256x8_S256x1_0_1) main_v3
  let main_v10 : FVec F S256x1 .f32 := (extractStridedSlice S256x1 ![0, 2] · slices_S256x8_S256x1_0_2) main_v3
  let main_v11 : IVec S256x1 1 := cmpf .ogt main_v9 main_v10
  let main_v12 : IVec S256x1 1 := andi main_v8 main_v11
  let main_v13 : FVec F S256x1 .f32 := (extractStridedSlice S256x1 ![0, 2] · slices_S256x8_S256x1_0_2) main_v3
  let main_v14 : FVec F S256x1 .f32 := (extractStridedSlice S256x1 ![0, 3] · slices_S256x8_S256x1_0_3) main_v3
  let main_v15 : IVec S256x1 1 := cmpf .ogt main_v13 main_v14
  let main_v16 : IVec S256x1 1 := andi main_v12 main_v15
  let main_v17 : FVec F S256x1 .f32 := (extractStridedSlice S256x1 ![0, 3] · slices_S256x8_S256x1_0_3) main_v3
  let main_v18 : FVec F S256x1 .f32 := (extractStridedSlice S256x1 ![0, 4] · slices_S256x8_S256x1_0_4) main_v3
  let main_v19 : IVec S256x1 1 := cmpf .ogt main_v17 main_v18
  let main_v20 : IVec S256x1 1 := andi main_v16 main_v19
  let main_v21 : FVec F S256x1 .f32 := (extractStridedSlice S256x1 ![0, 4] · slices_S256x8_S256x1_0_4) main_v3
  let main_v22 : FVec F S256x1 .f32 := (extractStridedSlice S256x1 ![0, 5] · slices_S256x8_S256x1_0_5) main_v3
  fn_part1 (F := F) main_v3 main_v4 main_v8 main_v12 main_v16 main_v20 main_v21 main_v22
-- ==== Kernel.lean ====
abbrev S256x1024 : Shape := ⟨2, ![256, 1024]⟩
abbrev S256x8 : Shape := ⟨2, ![256, 8]⟩
abbrev S2x128x1024 : Shape := ⟨3, ![2, 128, 1024]⟩
abbrev S2x128x8 : Shape := ⟨3, ![2, 128, 8]⟩
abbrev S4 : Shape := ⟨1, ![4]⟩
abbrev S2 : Shape := ⟨1, ![2]⟩
abbrev S_ : Shape := ⟨0, ![]⟩
abbrev S1 : Shape := ⟨1, ![1]⟩
abbrev S1x128x1024 : Shape := ⟨3, ![1, 128, 1024]⟩
abbrev S128x1024 : Shape := ⟨2, ![128, 1024]⟩
abbrev S128 : Shape := ⟨1, ![128]⟩
abbrev S128x1 : Shape := ⟨2, ![128, 1]⟩
abbrev S128x8 : Shape := ⟨2, ![128, 8]⟩
abbrev S1x128x8 : Shape := ⟨3, ![1, 128, 8]⟩
abbrev S128x16 : Shape := ⟨2, ![128, 16]⟩

abbrev nBuf : Space → Nat
  | .hbm => 2
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S256x8, .f32⟩
  | .local _ .vmem, ⟨0, _⟩ => ⟨S256x8, .f32⟩
  | .local _ .vmem, ⟨1, _⟩ => ⟨S2x128x1024, .f32⟩
  | .local _ .vmem, ⟨2, _⟩ => ⟨S2x128x8, .f32⟩
  | .local _ .vmem, ⟨3, _⟩ => ⟨S2x128x8, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 1 7 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_48 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_47 : BitVec 32 := 2#32
  let v77 : BitVec 32 := Scalar.muli v6 c2_i32_47
  let v78 : BitVec 32 := Scalar.addi c0_i32_48 v77
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_49 : BitVec 32 := 1#32
  let v79 : BitVec 32 := Scalar.muli v5 c1_i32_49
  let v80 : BitVec 32 := Scalar.addi v78 v79
  v80.toNat
def k0_dev3 (d0 : Dev nD) : Nat :=
  let c0_i32_84 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_83 : BitVec 32 := 2#32
  let v144 : BitVec 32 := Scalar.muli v6 c2_i32_83
  let v145 : BitVec 32 := Scalar.addi c0_i32_84 v144
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_85 : BitVec 32 := 1#32
  let v146 : BitVec 32 := Scalar.muli v5 c1_i32_85
  let v147 : BitVec 32 := Scalar.addi v145 v146
  v147.toNat
abbrev stage0_0 : Fin 1 → Memref sig .tc .vmem S256x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S256x2048 : Shape := ⟨2, ![256, 2048]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .i32⟩
  | .hbm, ⟨3, _⟩ => ⟨S256x2048, .f32⟩
  | .hbm, ⟨4, _⟩ => ⟨S256x2048, .i32⟩
  | .hbm, ⟨5, _⟩ => ⟨S256x8, .i32⟩
  | .hbm, ⟨6, _⟩ => ⟨S_, .i32⟩
  | .hbm, ⟨7, _⟩ => ⟨S256x8, .i32⟩
  | .hbm, ⟨8, _⟩ => ⟨S256x8, .i1⟩
  | .hbm, ⟨9, _⟩ => ⟨S_, .i32⟩
  | .hbm, ⟨10, _⟩ => ⟨S256x8, .i32⟩
  | .hbm, ⟨11, _⟩ => ⟨S256x8, .i32⟩
  | .hbm, ⟨12, _⟩ => ⟨S256x8, .i32⟩
  | .hbm, ⟨13, _⟩ => ⟨S256x8x1, .i32⟩
  | .hbm, ⟨14, _⟩ => ⟨S1, .i32⟩
  | .hbm, ⟨15, _⟩ => ⟨S_, .i32⟩
  | .hbm, ⟨16, _⟩ => ⟨S256x8x1, .i32⟩
  | .hbm, ⟨17, _⟩ => ⟨S256x8x1, .i1⟩
  | .hbm, ⟨18, _⟩ => ⟨S1x1x1, .i32⟩
  | .hbm, ⟨19, _⟩ => ⟨S256x8x1, .i32⟩
  | .hbm, ⟨20, _⟩ => ⟨S256x8x1, .i1⟩
  | .hbm, ⟨21, _⟩ => ⟨S256x8x1, .i1⟩
  | .hbm, ⟨22, _⟩ => ⟨S_, .i1⟩
  | .hbm, ⟨23, _⟩ => ⟨S256x8, .i1⟩
  | .hbm, ⟨24, _⟩ => ⟨S256x8, .f32⟩
  | .hbm, ⟨25, _⟩ => ⟨S_, .f32⟩
  | .hbm, ⟨26, _⟩ => ⟨S256x8, .f32⟩
  | .hbm, ⟨27, _⟩ => ⟨S256x8, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.KernelIdeal.Rounds8.lean ====
/-
What one block of rows computes, in the kernel's own operations.

A chunk is 128 rows. For each row the kernel takes the row's maximum, strikes every entry equal to it
(replaces it by minus infinity), and does so eight times: the eight maxima are the row of `top8`.
Two such tables are then set side by side and reduced in the same way (`merge8`).
-/
module

public import proofs.«01_k».proof.KernelIdeal
public import proofs.«01_k».proof.Proof.Gen.KernelIdeal
public import proofs.«01_k».proof.Proof.Gen.KernelIdeal.Skeleton

@[expose] public section

noncomputable section

namespace Cert.KernelIdeal.TopK

open Idealize.ShloMosaic Idealize.SL.Sem
open Cert.KernelIdeal Cert.KernelIdeal.Gen

variable {F : FTy → Type} [FloatOps F]

/-- The largest entry of each row of a 128 × 1024 chunk, as a column. -/
def rowMax (v : FVec F S128x1024 .f32) : FVec F S128x1 .f32 :=
  shapeCast S128x1
    (multiReduction .maximumf [1] S128 v 0xFF800000#32 reduces_S128x1024_S128 (.inl rfl) rfl)
    shapeCasts_S128_S128x1

/-- A chunk with every entry that equals its row's maximum replaced by minus infinity. -/
def strike (v : FVec F S128x1024 .f32) : FVec F S128x1024 .f32 :=
  select (cmpf .oeq v (broadcastTo S128x1024 (rowMax v) broadcasts_S128x1_S128x1024))
    (broadcast S128x1024 (Scalar.ofBits .f32 0xFF800000#32)) v

/-- The maxima of the first eight rounds of striking, side by side. -/
def top8 (v : FVec F S128x1024 .f32) : FVec F S128x8 .f32 :=
  concatenate S128x8 1
    [⟨S128x1, rowMax v⟩, ⟨S128x1, rowMax (strike v)⟩, ⟨S128x1, rowMax (strike (strike v))⟩,
     ⟨S128x1, rowMax (strike (strike (strike v)))⟩,
     ⟨S128x1, rowMax (strike (strike (strike (strike v))))⟩,
     ⟨S128x1, rowMax (strike (strike (strike (strike (strike v)))))⟩,
     ⟨S128x1, rowMax (strike (strike (strike (strike (strike (strike v))))))⟩,
     ⟨S128x1, rowMax (strike (strike (strike (strike (strike (strike (strike v)))))))⟩]
    concatenates_S128x1_S128x1_S128x1_S128x1_S128x1_S128x1_S128x1_S128x1_S128x8_d1

/-- The largest entry of each row of a 128 × 16 table, as a column. -/
def rowMax16 (v : FVec F S128x16 .f32) : FVec F S128x1 .f32 :=
  shapeCast S128x1
    (multiReduction .maximumf [1] S128 v 0xFF800000#32 reduces_S128x16_S128 (.inl rfl) rfl)
    shapeCasts_S128_S128x1

/-- A 128 × 16 table with every entry that equals its row's maximum replaced by minus infinity. -/
def strike16 (v : FVec F S128x16 .f32) : FVec F S128x16 .f32 :=
  select (cmpf .oeq v (broadcastTo S128x16 (rowMax16 v) broadcasts_S128x1_S128x16))
    (broadcast S128x16 (Scalar.ofBits .f32 0xFF800000#32)) v

/-- The maxima of the first eight rounds of striking a 128 × 16 table. -/
def top8of16 (v : FVec F S128x16 .f32) : FVec F S128x8 .f32 :=
  concatenate S128x8 1
    [⟨S128x1, rowMax16 v⟩, ⟨S128x1, rowMax16 (strike16 v)⟩,
     ⟨S128x1, rowMax16 (strike16 (strike16 v))⟩,
     ⟨S128x1, rowMax16 (strike16 (strike16 (strike16 v)))⟩,
     ⟨S128x1, rowMax16 (strike16 (strike16 (strike16 (strike16 v))))⟩,
     ⟨S128x1, rowMax16 (strike16 (strike16 (strike16 (strike16 (strike16 v)))))⟩,
     ⟨S128x1, rowMax16 (strike16 (strike16 (strike16 (strike16 (strike16 (strike16 v))))))⟩,
     ⟨S128x1, rowMax16 (strike16 (strike16 (strike16 (strike16 (strike16 (strike16 (strike16 v)))))))⟩]
    concatenates_S128x1_S128x1_S128x1_S128x1_S128x1_S128x1_S128x1_S128x1_S128x8_d1

/-- Two tables of eight candidates a row, reduced to one. -/
def merge8 (A B : FVec F S128x8 .f32) : FVec F S128x8 .f32 :=
  top8of16 (concatenate S128x16 1 [⟨S128x8, A⟩, ⟨S128x8, B⟩] concatenates_S128x8_S128x8_S128x16_d1)

section
variable (v : Vec F S1x128x1024 .f32)

/-- The first chunk's eight rounds, as the printed program spreads them, are `top8`. -/
theorem pay16_eq :
    k0_pay16 (k0_pay2 v) (k0_pay4 v) (k0_pay6 v) (k0_pay8 v) (k0_pay10 v) (k0_pay12 v) (k0_pay14 v)
        (k0_pay15 v)
      = shapeCast S1x128x8 (top8 (shapeCast S128x1024 v shapeCasts_S1x128x1024_S128x1024))
          shapeCasts_S128x8_S1x128x8 := by
  have e2 : k0_pay2 v = rowMax (k0_pay1 v) := rfl
  have e3 : k0_pay3 v = strike (k0_pay1 v) := rfl
  have e4 : k0_pay4 v = rowMax (k0_pay3 v) := rfl
  have e5 : k0_pay5 v = strike (k0_pay3 v) := rfl
  have e6 : k0_pay6 v = rowMax (k0_pay5 v) := rfl
  have e7 : k0_pay7 v = strike (k0_pay5 v) := rfl
  have e8 : k0_pay8 v = rowMax (k0_pay7 v) := rfl
  have e9 : k0_pay9 v = strike (k0_pay7 v) := rfl
  have e10 : k0_pay10 v = rowMax (k0_pay9 v) := rfl
  have e11 : k0_pay11 v = strike (k0_pay9 v) := rfl
  have e12 : k0_pay12 v = rowMax (k0_pay11 v) := rfl
  have e13 : k0_pay13 v = strike (k0_pay11 v) := rfl
  have e14 : k0_pay14 v = rowMax (k0_pay13 v) := rfl
  have e15 : k0_pay15 v = strike (k0_pay13 v) := rfl
  rw [e2, e4, e6, e8, e10, e12, e14, e15, e13, e11, e9, e7, e5, e3]
  rfl

/-- The second chunk's eight rounds are `top8` too. -/
theorem pay21_eq :
    k0_pay21 (k0_pay20 (k0_pay17 v) (k0_pay18 v) (k0_pay19 v))
      = shapeCast S1x128x8 (top8 (shapeCast S128x1024 v shapeCasts_S1x128x1024_S128x1024))
          shapeCasts_S128x8_S1x128x8 := rfl

end

section
variable (a b : Vec F S1x128x8 .f32)

/-- What is stored as the first 128 rows of the result is `merge8` of the two candidate tables. -/
theorem pay23_eq :
    k0_pay23 (k0_pay22 a b)
      = merge8 (shapeCast S128x8 a shapeCasts_S1x128x8_S128x8)
          (shapeCast S128x8 b shapeCasts_S1x128x8_S128x8) := rfl

/-- And so is what is stored as the last 128 rows. -/
theorem pay31_eq :
    k0_pay31 (k0_pay25 a b) (k0_pay27 a b) (k0_pay29 a b) (k0_pay30 a b)
      = merge8 (shapeCast S128x8 a shapeCasts_S1x128x8_S128x8)
          (shapeCast S128x8 b shapeCasts_S1x128x8_S128x8) := by
  have e25 : k0_pay25 a b = rowMax16 (k0_pay24 a b) := rfl
  have e26 : k0_pay26 a b = strike16 (k0_pay24 a b) := rfl
  have e27 : k0_pay27 a b = rowMax16 (k0_pay26 a b) := rfl
  have e28 : k0_pay28 a b = strike16 (k0_pay26 a b) := rfl
  have e29 : k0_pay29 a b = rowMax16 (k0_pay28 a b) := rfl
  have e30 : k0_pay30 a b = strike16 (k0_pay28 a b) := rfl
  rw [e25, e27, e29, e30, e28, e26]
  rfl

end

end Cert.KernelIdeal.TopK
-- ==== Proof.KernelIdeal.Slots.lean ====
/-
The pieces of memory the kernel hands around.

Each device cuts its block of the argument into two chunks of 128 rows; the scratch buffers have one slot
per chunk. This module names the slots as the printed program names them, shows that the two slots of a
buffer are disjoint and make up the buffer, and says what a load of a slot and a store into one mean for
the slot's contents.
-/
module

public import proofs.«01_k».proof.Proof.KernelIdeal.Rounds8
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.MemrefSat
public import Idealize.ShloMosaic.Lib.Tactic

@[expose] public section

noncomputable section

namespace Cert.KernelIdeal.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The rectangles -/

abbrev rectX0 : Rect S2x128x1024 := Rect.unit (s := S2x128x1024) ![0, 0, 0] S1x128x1024.size inb_S2x128x1024_S1x128x1024_0_0_0
abbrev rectX1 : Rect S2x128x1024 := Rect.unit (s := S2x128x1024) ![1, 0, 0] S1x128x1024.size inb_S2x128x1024_S1x128x1024_1_0_0
abbrev rectA0 : Rect S256x1024 := Rect.unit (s := S256x1024) ![0, 0] S128x1024.size inb_S256x1024_S128x1024_0_0
abbrev rectA1 : Rect S256x1024 := Rect.unit (s := S256x1024) ![128, 0] S128x1024.size inb_S256x1024_S128x1024_128_0
abbrev rectL0 : Rect S2x128x8 := Rect.unit (s := S2x128x8) ![0, 0, 0] S1x128x8.size inb_S2x128x8_S1x128x8_0_0_0
abbrev rectL1 : Rect S2x128x8 := Rect.unit (s := S2x128x8) ![1, 0, 0] S1x128x8.size inb_S2x128x8_S1x128x8_1_0_0
abbrev rectO0 : Rect S256x8 := Rect.unit (s := S256x8) ![0, 0] S128x8.size inb_S256x8_S128x8_0_0
abbrev rectO1 : Rect S256x8 := Rect.unit (s := S256x8) ![128, 0] S128x8.size inb_S256x8_S128x8_128_0

/-! ## The memrefs -/

abbrev argM : Memref sig .tc .hbm S256x1024 .f32 := Memref.whole main_arg0
abbrev outM : Memref sig .tc .vmem S256x8 .f32 := Memref.whole cc0_stg0_0
abbrev xM : Memref sig .tc .vmem S2x128x1024 .f32 := Memref.whole cc0_scratch0
abbrev locM : Memref sig .tc .vmem S2x128x8 .f32 := Memref.whole cc0_scratch1
abbrev rcvM : Memref sig .tc .vmem S2x128x8 .f32 := Memref.whole cc0_scratch2

/-- The first and the last 128 rows of the device's block of the argument. -/
abbrev rows0 : Memref sig .tc .hbm S128x1024 .f32 := argM.slice rectA0 (fun _ => rfl)
abbrev rows1 : Memref sig .tc .hbm S128x1024 .f32 := argM.slice rectA1 (fun _ => rfl)
/-- The slots the rows are loaded into. -/
abbrev x0 : Memref sig .tc .vmem S128x1024 .f32 := (xM.slice rectX0 (fun _ => rfl)).squeeze S128x1024 squeezes_S1x128x1024_S128x1024
abbrev x1 : Memref sig .tc .vmem S128x1024 .f32 := (xM.slice rectX1 (fun _ => rfl)).squeeze S128x1024 squeezes_S1x128x1024_S128x1024
/-- The slots that hold the device's own candidates. -/
abbrev l0 : Memref sig .tc .vmem S128x8 .f32 := (locM.slice rectL0 (fun _ => rfl)).squeeze S128x8 squeezes_S1x128x8_S128x8
abbrev l1 : Memref sig .tc .vmem S128x8 .f32 := (locM.slice rectL1 (fun _ => rfl)).squeeze S128x8 squeezes_S1x128x8_S128x8
/-- The slots the peer's candidates land in. -/
abbrev r0 : Memref sig .tc .vmem S128x8 .f32 := (rcvM.slice rectL0 (fun _ => rfl)).squeeze S128x8 squeezes_S1x128x8_S128x8
abbrev r1 : Memref sig .tc .vmem S128x8 .f32 := (rcvM.slice rectL1 (fun _ => rfl)).squeeze S128x8 squeezes_S1x128x8_S128x8

/-! ## The element sets -/

theorem set_rows0 : rows0.view.set = rectA0.set := View.set_slice_whole _ _
theorem set_rows1 : rows1.view.set = rectA1.set := View.set_slice_whole _ _
theorem set_x0 : x0.view.set = rectX0.set := (Memref.set_view_squeeze _ _).trans (View.set_slice_whole _ _)
theorem set_x1 : x1.view.set = rectX1.set := (Memref.set_view_squeeze _ _).trans (View.set_slice_whole _ _)
theorem set_l0 : l0.view.set = rectL0.set := (Memref.set_view_squeeze _ _).trans (View.set_slice_whole _ _)
theorem set_l1 : l1.view.set = rectL1.set := (Memref.set_view_squeeze _ _).trans (View.set_slice_whole _ _)
theorem set_r0 : r0.view.set = rectL0.set := (Memref.set_view_squeeze _ _).trans (View.set_slice_whole _ _)
theorem set_r1 : r1.view.set = rectL1.set := (Memref.set_view_squeeze _ _).trans (View.set_slice_whole _ _)

theorem disj_X : Disjoint rectX0.set rectX1.set := Rect.unit_disjoint 0 (.inl (by decide))
theorem disj_A : Disjoint rectA0.set rectA1.set := Rect.unit_disjoint 0 (.inl (by decide))
theorem disj_L : Disjoint rectL0.set rectL1.set := Rect.unit_disjoint 0 (.inl (by decide))
theorem disj_O : Disjoint rectO0.set rectO1.set := Rect.unit_disjoint 0 (.inl (by decide))

/-- Two unit-stride rectangles that split the first axis at `n` and take the other axes whole cover the shape. -/
theorem cover_of_split {s : Shape} {off off' size size' : Fin s.rank → Nat} {inb inb'} (a₀ : Fin s.rank)
    (h0 : ∀ a, off a = 0) (h1 : ∀ a, a ≠ a₀ → off' a = 0 ∧ size a = s.size a ∧ size' a = s.size a)
    (hs : off' a₀ = size a₀) (he : off' a₀ + size' a₀ = s.size a₀) :
    (Rect.unit (s := s) off size inb).set ∪ (Rect.unit (s := s) off' size' inb').set = Finset.univ := by
  ext i
  simp only [Finset.mem_union, Rect.mem_set_unit, Finset.mem_univ, iff_true]
  by_cases hi : (i a₀ : Nat) < size a₀
  · left; intro a
    by_cases ha : a = a₀
    · subst ha; rw [h0]; omega
    · have := (i a).isLt; rw [h0, (h1 a ha).2.1]; omega
  · right; intro a
    by_cases ha : a = a₀
    · subst ha; have := (i a).isLt; omega
    · have := (i a).isLt; rw [(h1 a ha).1, (h1 a ha).2.2]; omega

theorem cover_X : rectX0.set ∪ rectX1.set = Finset.univ :=
  cover_of_split 0 (by decide) (by decide) (by decide) (by decide)
theorem cover_A : rectA0.set ∪ rectA1.set = Finset.univ :=
  cover_of_split 0 (by decide) (by decide) (by decide) (by decide)
theorem cover_L : rectL0.set ∪ rectL1.set = Finset.univ :=
  cover_of_split 0 (by decide) (by decide) (by decide) (by decide)
theorem cover_O : rectO0.set ∪ rectO1.set = Finset.univ :=
  cover_of_split 0 (by decide) (by decide) (by decide) (by decide)

/-! ## What loads and stores do to the slots -/

/-- A slot's contents are what a load of its rectangle reads, shape-cast. -/
theorem load_x0 (f : (cc0_scratch0 : Ref sig .tc).ty.Contents (Elt F)) :
    shapeCast S128x1024 (xM.view.readAt (Elt F) rectX0.toLoadRect f) shapeCasts_S1x128x1024_S128x1024 = x0.view.read (Elt F) f := rfl
theorem load_x1 (f : (cc0_scratch0 : Ref sig .tc).ty.Contents (Elt F)) :
    shapeCast S128x1024 (xM.view.readAt (Elt F) rectX1.toLoadRect f) shapeCasts_S1x128x1024_S128x1024 = x1.view.read (Elt F) f := rfl
theorem load_l0 (f : (cc0_scratch1 : Ref sig .tc).ty.Contents (Elt F)) :
    shapeCast S128x8 (locM.view.readAt (Elt F) rectL0.toLoadRect f) shapeCasts_S1x128x8_S128x8 = l0.view.read (Elt F) f := rfl
theorem load_l1 (f : (cc0_scratch1 : Ref sig .tc).ty.Contents (Elt F)) :
    shapeCast S128x8 (locM.view.readAt (Elt F) rectL1.toLoadRect f) shapeCasts_S1x128x8_S128x8 = l1.view.read (Elt F) f := rfl
theorem load_r0 (f : (cc0_scratch2 : Ref sig .tc).ty.Contents (Elt F)) :
    shapeCast S128x8 (rcvM.view.readAt (Elt F) rectL0.toLoadRect f) shapeCasts_S1x128x8_S128x8 = r0.view.read (Elt F) f := rfl
theorem load_r1 (f : (cc0_scratch2 : Ref sig .tc).ty.Contents (Elt F)) :
    shapeCast S128x8 (rcvM.view.readAt (Elt F) rectL1.toLoadRect f) shapeCasts_S1x128x8_S128x8 = r1.view.read (Elt F) f := rfl

/-- Storing a shape-cast table through a slot's rectangle leaves the table in the slot. -/
theorem store_slot {s s' : Shape} {sp : Space} {e : EltTy} (M : Memref sig .tc sp s e) (r : Rect s) (hr : ∀ a, r.stride a = 1)
    (hq : r.shape.Squeezes s') (hc : r.shape.ShapeCasts s') (hc' : s'.ShapeCasts r.shape)
    (f : M.view.ty.Contents (Elt F)) (w : s'.Idx → Elt F e) :
    ((M.slice r hr).squeeze s' hq).view.read (Elt F)
        ((M.access r).write (Elt F) f (shapeCast r.shape w hc') Finset.univ) = w := by
  rw [Memref.read_squeeze_slice M r hr hq hc]
  have h : M.view.readAt (Elt F) r.toLoadRect ((M.access r).write (Elt F) f (shapeCast r.shape w hc') Finset.univ)
      = shapeCast r.shape w hc' := (M.access r).read_write_univ f _
  rw [h, shapeCast_shapeCast]

end Cert.KernelIdeal.TopK
-- ==== Proof.KernelIdeal.Sched.lean ====
/-
The protocol between a device and its peer.

A device has seven semaphore cells, numbered: 0 the barrier, 1 and 3 the two sends, 2 and 4 the two
receives, 5 and 6 the two loads of the argument's rows. Each cell has one round with one duty. Paying the
barrier's duty hands over the payer's two landing slots; paying a receive's hands over the slot holding the
payer's candidates; paying a send's or a load's gives back what the copy was reading (a load also the slot
it filled).
-/
module

public import proofs.«01_k».proof.Proof.KernelIdeal.Slots

@[expose] public section

noncomputable section

namespace Cert.KernelIdeal.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, all counters zero. -/
def s₀ : MemSt nD τ sig (Elt F) := ⟨m, fun _ => 0, ρ⟩

/-! ## The peer -/

set_option backward.proofsInPublic true in
/-- The device that holds the other half of this device's columns. -/
def peer (c : Dev nD) : Dev nD := ⟨(c.val + 2) % 4, Nat.mod_lt _ (by decide)⟩

theorem peer_peer (c : Dev nD) : peer (peer c) = c := by revert c; decide
theorem dev1_eq (c : Dev nD) : (⟨k0_dev1 c, k0_dev1_lt c⟩ : Dev nD) = peer c := by
  have h := k0_dev1_eq c; revert h; revert c; decide +kernel
theorem dev2_eq (c : Dev nD) : (⟨k0_dev2 c, k0_dev2_lt c⟩ : Dev nD) = peer c := by
  have h := k0_dev2_eq c; revert h; revert c; decide +kernel
theorem dev3_eq (c : Dev nD) : (⟨k0_dev3 c, k0_dev3_lt c⟩ : Dev nD) = peer c := by
  have h := k0_dev3_eq c; revert h; revert c; decide +kernel

/-- Exchanging every device with its peer. -/
def swap : Dev nD ≃ Dev nD := ⟨peer, peer, peer_peer, peer_peer⟩

/-! ## The cells -/

abbrev barS : Sem sig := (SemArray.scalar (sig.barrier 0 rfl) : Sems sig S_).sem
abbrev xfer0 : DmaSem sig := ((cc0_scratch3.slice (Rect.unit (s := S4) ![0] S1.size inb_S4_S1_0)).squeeze S_ squeezes_S1_S_ : DmaSems sig S_).sem
abbrev xfer1 : DmaSem sig := ((cc0_scratch3.slice (Rect.unit (s := S4) ![1] S1.size inb_S4_S1_1)).squeeze S_ squeezes_S1_S_ : DmaSems sig S_).sem
abbrev xfer2 : DmaSem sig := ((cc0_scratch3.slice (Rect.unit (s := S4) ![2] S1.size inb_S4_S1_2)).squeeze S_ squeezes_S1_S_ : DmaSems sig S_).sem
abbrev xfer3 : DmaSem sig := ((cc0_scratch3.slice (Rect.unit (s := S4) ![3] S1.size inb_S4_S1_3)).squeeze S_ squeezes_S1_S_ : DmaSems sig S_).sem
abbrev fill0 : DmaSem sig := ((cc0_scratch4.slice (Rect.unit (s := S2) ![0] S1.size inb_S2_S1_0)).squeeze S_ squeezes_S1_S_ : DmaSems sig S_).sem
abbrev fill1 : DmaSem sig := ((cc0_scratch4.slice (Rect.unit (s := S2) ![1] S1.size inb_S2_S1_1)).squeeze S_ squeezes_S1_S_ : DmaSems sig S_).sem

/-- The seven semaphores, by number. -/
abbrev csem : Fin 7 → SemLoc sig := fun
  | 0 => .reg barS
  | 1 => .dma xfer0
  | 2 => .dma xfer1
  | 3 => .dma xfer2
  | 4 => .dma xfer3
  | 5 => .dma fill0
  | 6 => .dma fill1
/-- The six the kernel brings itself (all but the barrier). -/
abbrev osem : Fin 6 → SemLoc sig := fun k => csem k.succ
abbrev kcell (ck : Dev nD × Fin 7) : GSem nD τ sig := ((ck.1 : Thread nD τ), csem ck.2)

theorem csem_injective : Function.Injective csem := by decide

/-- The number of a semaphore, if it is one of the seven. -/
def ixOf (s : SemLoc sig) : Option (Fin 7) := (List.finRange 7).find? fun k => decide (csem k = s)

theorem ixOf_csem (k : Fin 7) : ixOf (csem k) = some k := by
  revert k; decide

/-! ## What the chunks hold -/

/-- Bytes credited for a chunk of the argument, and for a table of candidates. -/
abbrev NX : ℕ := x0.view.dmaCredit
abbrev NC : ℕ := r0.view.dmaCredit
theorem NX_pos : 0 < NX := View.dmaCredit_pos _ (by decide)
theorem NC_pos : 0 < NC := View.dmaCredit_pos _ (by decide)

/-- The device's block of the argument. -/
def argOf (c : Dev nD) : Buf (Elt F) (argM.view.loc (c : Thread nD τ)) := m (argM.view.loc (c : Thread nD τ))
/-- Its two chunks. -/
def chunk0 (c : Dev nD) : FVec F S128x1024 .f32 := rows0.view.read (Elt F) (argOf m c)
def chunk1 (c : Dev nD) : FVec F S128x1024 .f32 := rows1.view.read (Elt F) (argOf m c)
/-- The candidates the device finds in each. -/
def cand0 (c : Dev nD) : FVec F S128x8 .f32 := top8 (chunk0 m c)
def cand1 (c : Dev nD) : FVec F S128x8 .f32 := top8 (chunk1 m c)
/-- What it makes of its own candidates and its peer's. -/
def best0 (c : Dev nD) : FVec F S128x8 .f32 := merge8 (cand0 m c) (cand0 m (peer c))
def best1 (c : Dev nD) : FVec F S128x8 .f32 := merge8 (cand1 m c) (cand1 m (peer c))

/-- The rows of the argument, held. -/
def rowsPts0 (c : Dev nD) : sProp 𝕄 := rows0.view.loc (c : Thread nD τ) ↦[rows0.view.set]{fullShare} argOf m c
def rowsPts1 (c : Dev nD) : sProp 𝕄 := rows1.view.loc (c : Thread nD τ) ↦[rows1.view.set]{fullShare} argOf m c

/-- Both landing slots, at whatever they hold. -/
def landing (c : Dev nD) : sProp 𝕄 :=
  iprop((∃ X, owns (c : Thread nD τ) r0 fullShare X) ∗ (∃ X, owns (c : Thread nD τ) r1 fullShare X))

/-! ## The schedule -/

/-- What the duty of cell `k` of device `c` delivers. -/
def pay (c : Dev nD) : Fin 7 → sProp 𝕄 := fun
  | 0 => landing (peer c)
  | 1 => owns (c : Thread nD τ) l0 fullShare.left (cand0 m c)
  | 2 => owns (c : Thread nD τ) r0 fullShare (cand0 m (peer c))
  | 3 => owns (c : Thread nD τ) l1 fullShare.left (cand1 m c)
  | 4 => owns (c : Thread nD τ) r1 fullShare (cand1 m (peer c))
  | 5 => iprop(owns (c : Thread nD τ) x0 fullShare (chunk0 m c) ∗ rowsPts0 m c)
  | 6 => iprop(owns (c : Thread nD τ) x1 fullShare (chunk1 m c) ∗ rowsPts1 m c)

omit [FloatOps F] in
instance landing_storable (c : Dev nD) : BI.Storable (upEmb : UEmb _ 𝕄) (landing (F := F) c) := by
  unfold landing; infer_instance

instance pay_storable (c : Dev nD) (k : Fin 7) : BI.Storable (upEmb : UEmb _ 𝕄) (pay m c k) := by
  unfold pay rowsPts0 rowsPts1; split <;> infer_instance

/-- How much it counts. -/
def amt : Fin 7 → ℕ := fun | 0 => 1 | 1 => NC | 2 => NC | 3 => NC | 4 => NC | 5 => NX | 6 => NX

theorem amt_pos (k : Fin 7) : 0 < amt k := by
  fin_cases k <;> first | exact Nat.one_pos | exact NC_pos | exact NX_pos

/-- One round per cell, one duty in it. -/
def sched : Rounds.Schedule (GSem nD τ sig) Unit 𝕄 where
  duties g r := if r = 0 ∧ g.1.2 = .tc ∧ (ixOf g.2).isSome then {()} else ∅
  unitless _ := False
  amount g _ _ := match ixOf g.2 with | some k => amt k | none => 1
  payload g _ _ := match ixOf g.2 with | some k => pay m g.1.1 k | none => iprop(emp)
  amount_pos g _ _ _ := by
    cases h : ixOf g.2 with
    | none => exact Nat.one_pos
    | some k => exact amt_pos k

instance sched_storable (g : GSem nD τ sig) (r : ℕ) (d : Unit) :
    BI.Storable (upEmb : UEmb _ 𝕄) ((sched m).payload g r d) := by
  show BI.Storable upEmb (match ixOf g.2 with | some k => pay m g.1.1 k | none => iprop(emp))
  split <;> infer_instance

section
variable (c : Dev nD) (k : Fin 7)

theorem duties_cell : (sched m).duties (kcell (c, k)) 0 = {()} := by
  dsimp only [sched]; rw [ixOf_csem]; exact if_pos ⟨rfl, rfl, rfl⟩
theorem duty_mem : () ∈ (sched m).duties (kcell (c, k)) 0 := by
  rw [duties_cell]; exact Finset.mem_singleton_self _
theorem duties_later (g : GSem nD τ sig) : ∀ r, 1 ≤ r → (sched m).duties g r = ∅ := fun r hr => by
  dsimp only [sched]; rw [if_neg fun h => by omega]
theorem amount_cell (d : Unit) : (sched m).amount (kcell (c, k)) 0 d = amt k := by
  dsimp only [sched]; rw [ixOf_csem]
theorem payload_cell (d : Unit) : (sched m).payload (kcell (c, k)) 0 d = pay m c k := by
  dsimp only [sched]; rw [ixOf_csem]
theorem expect_cell : (sched m).expect (kcell (c, k)) 0 = amt k := by
  unfold Schedule.expect Schedule.amountOf; rw [duties_cell, Finset.sum_singleton, amount_cell]
/-- Nothing of the round taken, its rest is the one payload. -/
theorem rest_cell :
    bigSep ((sched m).duties (kcell (c, k)) 0 \ ∅) (fun d => (sched m).payload (kcell (c, k)) 0 d) = pay m c k := by
  rw [Finset.sdiff_empty, duties_cell, bigSep_singleton, payload_cell]
end

/-! ## What is owed at launch, and in which order it may be waited for -/

/-- A device owes its peer the credit of two candidate tables and one barrier unit. -/
def O₂ (c : Dev nD) : CellTallies nD τ sig Unit := tallyAt (kcell (peer c, 4)) () NC
def O₁ (c : Dev nD) : CellTallies nD τ sig Unit := O₂ c + tallyAt (kcell (peer c, 2)) () NC
def O₀ (c : Dev nD) : CellTallies nD τ sig Unit := O₁ c + tallyAt (kcell (peer c, 0)) () 1

def L (g : GSem nD τ sig) : Finset Unit := if g.1.2 = .tc then {()} else ∅
/-- Receives come last, the barrier before them, everything local before that. -/
def rank : Option (Fin 7) → ℕ := fun | some 0 => 1 | some 2 => 2 | some 4 => 2 | _ => 0
def lv (g : GSem nD τ sig) (_ : Unit) : ℕ := rank (ixOf g.2)

theorem L_of_ne (g : GSem nD τ sig) (h : g.1.2 ≠ .tc) : L g = ∅ := if_neg h
theorem L_tc (c : Dev nD) (sm : SemLoc sig) : L ((c : Thread nD τ), sm) = {()} := if_pos rfl

theorem tally_pos {g h : GSem nD τ sig} {u v : Unit} {n : ℕ} (hp : 0 < tallyAt g v n h u) : h = g := by
  rw [tallyAt_apply] at hp
  by_contra hn
  rw [if_neg (fun h' => hn h'.1)] at hp
  exact Nat.lt_irrefl 0 hp

theorem O₂_pos {c : Dev nD} {g : GSem nD τ sig} {u : Unit} (h : 0 < O₂ c g u) :
    ∃ k c', g = kcell (c', k) ∧ 1 < rank (some k) := ⟨4, _, tally_pos h, by decide⟩
theorem O₁_pos {c : Dev nD} {g : GSem nD τ sig} {u : Unit} (h : 0 < O₁ c g u) :
    ∃ k c', g = kcell (c', k) ∧ 1 < rank (some k) := by
  unfold O₁ at h
  rw [Pi.add_apply, Finsupp.add_apply] at h
  rcases Nat.add_pos_iff_pos_or_pos.mp h with h | h
  · exact O₂_pos h
  · exact ⟨2, _, tally_pos h, by decide⟩
theorem O₀_pos {c : Dev nD} {g : GSem nD τ sig} {u : Unit} (h : 0 < O₀ c g u) :
    ∃ k c', g = kcell (c', k) ∧ 0 < rank (some k) := by
  unfold O₀ at h
  rw [Pi.add_apply, Finsupp.add_apply] at h
  rcases Nat.add_pos_iff_pos_or_pos.mp h with h | h
  · obtain ⟨k, c', h1, h2⟩ := O₁_pos h
    exact ⟨k, c', h1, Nat.lt_of_le_of_lt (Nat.zero_le _) h2⟩
  · exact ⟨0, _, tally_pos h, by decide⟩

omit [FloatOps F] in
/-- A semaphore ranked below everything owed may be waited for. -/
theorem mayWait_below (c : Dev nD) (s : SemLoc sig) (O : CellTallies nD τ sig Unit) (n : ℕ) (hs : rank (ixOf s) ≤ n)
    (hO : ∀ g u, 0 < O g u → ∃ k c', g = kcell (c', k) ∧ n < rank (some k)) :
    (levAts L lv : sProp 𝕄) ⊢ MayWait (c : Thread nD τ) s () O :=
  MayOwe.of_cut (L := L) (lev := lv) n (fun p hp => by rw [Finset.mem_singleton.mp hp, L_tc]; exact Finset.mem_singleton_self _)
    (fun g u hg => by obtain ⟨k, c', rfl, -⟩ := hO g u hg; exact Finset.mem_singleton_self _)
    (fun p hp => by rw [Finset.mem_singleton.mp hp]; exact hs)
    (fun g u hg => by
      obtain ⟨k, c', rfl, h⟩ := hO g u hg
      dsimp only [lv]; rw [ixOf_csem]; exact h)

omit [FloatOps F] in
theorem mayWait_nothing (c : Dev nD) (s : SemLoc sig) : (levAts L lv : sProp 𝕄) ⊢ MayWait (c : Thread nD τ) s () 0 := by
  rw [MayWait_zero]; iintro -; iempintro

end Cert.KernelIdeal.TopK
-- ==== Proof.KernelIdeal.Steps.lean ====
/-
One rule per kind of step the kernel takes: waiting on one of its own cells, filling a slot from the
argument, sending a slot to the peer, loading a slot and storing into one.
-/
module

public import proofs.«01_k».proof.Proof.KernelIdeal.Sched

@[expose] public section

noncomputable section

namespace Cert.KernelIdeal.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Every cell's invariant, and that its round is open: freely copied. -/
def records (K : Dev nD × Fin 7 → ℕ) : sProp 𝕄 :=
  iprop((bigSep Finset.univ fun ck : Dev nD × Fin 7 => cellInv ER (sched m) (K ck) (kcell ck))
    ∗ bigSep Finset.univ fun ck : Dev nD × Fin 7 => reached ER (kcell ck) 0)

instance records_persistent (K : Dev nD × Fin 7 → ℕ) : BI.Persistent (records m K) := by
  unfold records; infer_instance

theorem records_inv (K : Dev nD × Fin 7 → ℕ) (ck : Dev nD × Fin 7) :
    records m K ⊢ cellInv ER (sched m) (K ck) (kcell ck) := by
  have h : (bigSep Finset.univ fun ck : Dev nD × Fin 7 => (cellInv ER (sched m) (K ck) (kcell ck) : sProp 𝕄))
      ⊢ cellInv ER (sched m) (K ck) (kcell ck) := bigSep_elim (Finset.mem_univ ck)
  unfold records
  iintro ⟨H, -⟩
  iapply h; iexact H

theorem records_reached (K : Dev nD × Fin 7 → ℕ) (ck : Dev nD × Fin 7) :
    records m K ⊢ reached ER (kcell ck) 0 := by
  have h : (bigSep Finset.univ fun ck : Dev nD × Fin 7 => (reached ER (kcell ck) 0 : sProp 𝕄))
      ⊢ reached ER (kcell ck) 0 := bigSep_elim (Finset.mem_univ ck)
  unfold records
  iintro ⟨-, H⟩
  iapply h; iexact H

section
variable (K : Dev nD × Fin 7 → ℕ) (c : Dev nD)

/-- Waiting for all a cell of one's own counts gives what its duty delivers, and the cell is done with. -/
theorem wp_wait_cell {α : Type} {Q : α → sProp 𝕄} (k : Fin 7) {w : TpuEff nD τ sig (Elt F) Λ₀ .tc PUnit} {n : ℕ}
    (hw : ∀ J : PUnit → sProp 𝕄, wpE (defs₀ (F := F)) 𝒱₀ (c : Thread nD τ) none Set.univ w J = waitSpec (c : Thread nD τ) Set.univ (csem k) n J)
    (hn : n = amt k) {O : CellTallies nD τ sig Unit} {W : Waits sig Unit}
    {p : PUnit → Prog (TpuEff nD τ sig (Elt F) Λ₀ .tc) α} :
    iprop(records m K ∗ cred (tallyAt (kcell (c, k)) () (amt k)) ∗ owes (c : Thread nD τ) O W
        ∗ MayWait (c : Thread nD τ) (csem k) () O ∗ atPos ER (kcell (c, k)) 0 ∅ 0)
      ⊢ iprop(((owes (c : Thread nD τ) O (insert (csem k, ()) W) ∗ semVal (kcell (c, k)) 0 ∗ pay m c k)
            -∗ wp frame (wpE (defs₀ (F := F)) 𝒱₀ (c : Thread nD τ) none) Set.univ (p ⟨⟩) Q)
          -∗ wp frame (wpE (defs₀ (F := F)) 𝒱₀ (c : Thread nD τ) none) Set.univ (.op w p) Q) := by
  subst hn
  iintro ⟨#HR, Hc, HO, Hm, Ha⟩ Hk
  iapply (Rounds.wp_wait_rest_token 𝒱₀ ER (sched m) (c : Thread nD τ) none (κ := K (c, k)) hw (Set.mem_univ _) ()
      (O := O) (W := W) (R := 0) (m := 0) (T := ∅) (by rw [Nat.zero_add]; exact (expect_cell m c k).symm)) $$ [Hc HO Hm Ha]
  · isplitr; · iapply (records_inv m K (c, k)); iexact HR
    isplitl [Hc]; · iexact Hc
    isplitl [HO]; · iexact HO
    isplitl [Hm]; · iexact Hm
    iexact Ha
  iintro ⟨HO, Ha, -, Hp⟩
  imod (Rounds.cell_close ER (sched m) (Set.mem_univ (K (c, k))) (fun h => h) (R := 0 + 1) (duties_later m (kcell (c, k)))) $$ [Ha] with Hz
  · isplitr; · iapply (records_inv m K (c, k)); iexact HR
    iexact Ha
  iapply Hk
  isplitl [HO]; · iexact HO
  isplitl [Hz]; · iexact Hz
  iapply (Entails.of_eq (rest_cell m c k)); iexact Hp

/-- Starting a copy of rows of the argument into a slot. -/
theorem wp_fill {α : Type} {Q : α → sProp 𝕄} (k : Fin 7) {src : Memref sig .tc .hbm S128x1024 .f32} {dst : Memref sig .tc .vmem S128x1024 .f32} {s : DmaSem sig}
    (hs : csem k = .dma s) (hN : dst.view.dmaCredit = amt k)
    {hsrc : src.view.WordExact} {hdst : dst.view.WordExact} {hsem : DmaTarget.Typed (nD := nD) (τ := τ) (sig := sig) (p := .tc) .hbm (.dma s) (.here dst)}
    (fs : Buf (Elt F) (src.view.loc (c : Thread nD τ)))
    (hpay : iprop(owns (c : Thread nD τ) dst fullShare (src.view.read (Elt F) fs) ∗ (src.view.loc (c : Thread nD τ) ↦[src.view.set]{fullShare} fs)) ⊢ pay m c k)
    {p : PUnit → Prog (TpuEff nD τ sig (Elt F) Λ₀ .tc) α} {X : S128x1024.Idx → Elt F .f32} :
    iprop(records m K ∗ (src.view.loc (c : Thread nD τ) ↦[src.view.set]{fullShare} fs) ∗ owns (c : Thread nD τ) dst fullShare X
        ∗ dutyTok ER (kcell (c, k)) 0 ())
      ⊢ iprop((cred (tallyAt (kcell (c, k)) () (amt k)) -∗ wp frame (wpE (defs₀ (F := F)) 𝒱₀ (c : Thread nD τ) none) Set.univ (p ⟨⟩) Q)
          -∗ wp frame (wpE (defs₀ (F := F)) 𝒱₀ (c : Thread nD τ) none) Set.univ (.op (.enqueueDma src (.here dst) (.dma s) hsrc hdst hsem) p) Q) := by
  have hcell : kcell (c, k) = ((c : Thread nD τ), SemLoc.dma s) := by show ((c : Thread nD τ), csem k) = _; rw [hs]
  have hd := duty_mem m c k
  have ha := amount_cell m c k ()
  have hp := payload_cell m c k ()
  have hI := records_inv m K (c, k)
  have hr := records_reached m K (c, k)
  rw [hcell] at hd ha hp hI hr ⊢
  unfold owns
  iintro ⟨#HR, Hs, ⟨%fd, -, Hd⟩, Ht⟩ Hk
  iapply (Rounds.wp_copy_pointsTo 𝒱₀ ER (sched m) (c : Thread nD τ) none (κ := K (c, k)) (d := ()) (fs := fs) (fd := fd) hd () (amt k) hN ha
    (by
      rw [hp]
      refine (sep_mono_left ?_).trans hpay
      refine (owns_intro (c : Thread nD τ) dst fullShare _).trans (Entails.of_eq ?_)
      rw [View.read_write_univ])) $$ [Hs Hd Ht]
  · isplitr; · iapply hI; iexact HR
    isplitl [Hs]; · iexact Hs
    isplitl [Hd]; · iexact Hd
    isplitl [Ht]; · iexact Ht
    iapply hr; iexact HR
  iexact Hk

/-- Sending a slot to the peer: half of the slot goes with the copy and comes back at the send's wait. -/
theorem wp_send_slot {α : Type} {Q : α → sProp 𝕄} (k k' : Fin 7) {src dst : Memref sig .tc .vmem S128x8 .f32} {s s' : DmaSem sig} (n : Dev nD) (hn : n = peer c)
    (hs : csem k = .dma s) (hs' : csem k' = .dma s') (hN : dst.view.dmaCredit = NC) (ha : amt k = NC) (ha' : amt k' = NC)
    (X : S128x8.Idx → Elt F .f32)
    (hpay : owns (c : Thread nD τ) src fullShare.left X ⊢ pay m c k)
    (hpay' : owns (peer c : Thread nD τ) dst fullShare X ⊢ pay m (peer c) k')
    {hsc : (dst : Memref sig (Dev.tc n : Thread nD τ).2.kind .vmem S128x8 .f32).view.ref.isScScratch = false}
    {hsrc : src.view.WordExact} {hdst : dst.view.WordExact}
    {hsem : DmaTarget.Typed .vmem (.dma s') (.remote (Dev.tc n : Thread nD τ) (dst : Memref sig .tc .vmem S128x8 .f32) (.dma s) hsc)}
    (O : CellTallies nD τ sig Unit) {W : Waits sig Unit}
    {p : PUnit → Prog (TpuEff nD τ sig (Elt F) Λ₀ .tc) α} {Y : S128x8.Idx → Elt F .f32} :
    iprop(records m K ∗ owns (c : Thread nD τ) src fullShare.left X ∗ owns (peer c : Thread nD τ) dst fullShare Y
        ∗ owes (c : Thread nD τ) (O + tallyAt (kcell (peer c, k')) () NC) W
        ∗ dutyTok ER (kcell (c, k)) 0 () ∗ dutyTok ER (kcell (peer c, k')) 0 ())
      ⊢ iprop(((cred (tallyAt (kcell (c, k)) () (amt k)) ∗ owes (c : Thread nD τ) O W) -∗ wp frame (wpE (defs₀ (F := F)) 𝒱₀ (c : Thread nD τ) none) Set.univ (p ⟨⟩) Q)
          -∗ wp frame (wpE (defs₀ (F := F)) 𝒱₀ (c : Thread nD τ) none) Set.univ
              (.op (.enqueueDma src (.remote (Dev.tc n : Thread nD τ) dst (.dma s) hsc) (.dma s') hsrc hdst hsem) p) Q) := by
  subst hn
  have hcell : kcell (c, k) = ((c : Thread nD τ), SemLoc.dma s) := by show ((c : Thread nD τ), csem k) = _; rw [hs]
  have hcell' : kcell (peer c, k') = ((peer c : Thread nD τ), SemLoc.dma s') := by show ((peer c : Thread nD τ), csem k') = _; rw [hs']
  have hd := duty_mem m c k
  have hd' := duty_mem m (peer c) k'
  have hm := (amount_cell m c k ()).trans ha
  have hm' := (amount_cell m (peer c) k' ()).trans ha'
  have hp := payload_cell m c k ()
  have hp' := payload_cell m (peer c) k' ()
  have hI := records_inv m K (c, k)
  have hI' := records_inv m K (peer c, k')
  have hr := records_reached m K (c, k)
  have hr' := records_reached m K (peer c, k')
  rw [ha]
  rw [hcell] at hd hm hp hI hr ⊢
  rw [hcell'] at hd' hm' hp' hI' hr' ⊢
  iintro ⟨#HR, Hsrc, Hdst, HO, Ht, Ht'⟩ Hk
  ihave Hsrc := (show owns (c : Thread nD τ) src fullShare.left X ⊢ (iprop(∃ f, ⌜src.view.read (Elt F) f = X⌝ ∗ (src.view.loc (c : Thread nD τ) ↦[src.view.set]{fullShare.left} f)) : sProp 𝕄) from .rfl) $$ Hsrc
  icases Hsrc with ⟨%fs, %hfs, Hsrc⟩
  ihave Hdst := (show owns (peer c : Thread nD τ) dst fullShare Y ⊢ (iprop(∃ f, ⌜dst.view.read (Elt F) f = Y⌝ ∗ (dst.view.loc (peer c : Thread nD τ) ↦[dst.view.set]{fullShare} f)) : sProp 𝕄) from .rfl) $$ Hdst
  icases Hdst with ⟨%fd, -, Hdst⟩
  iapply (Rounds.wp_send_pointsTo 𝒱₀ ER (sched m) (c : Thread nD τ) none (κ₁ := K (c, k)) (κ₂ := K (peer c, k'))
      (r₁ := 0) (r₂ := 0) (d₁ := ()) (d₂ := ()) (fs := fs) (fd := fd) hd hd' () () NC hN hm hm' O rfl (W := W)
      (by
        rw [hp]
        refine ((owns_intro (c : Thread nD τ) src fullShare.left fs).trans (Entails.of_eq ?_)).trans hpay
        rw [hfs])
      (by
        rw [hp']
        refine ((owns_intro (peer c : Thread nD τ) dst fullShare _).trans (Entails.of_eq ?_)).trans hpay'
        rw [View.read_write_univ, hfs])) $$ [Hsrc Hdst HO Ht Ht']
  · isplitr; · iapply hI; iexact HR
    isplitr; · iapply hI'; iexact HR
    isplitl [Hsrc]; · iexact Hsrc
    isplitl [Hdst]; · iexact Hdst
    isplitl [HO]; · iexact HO
    isplitl [Ht]; · iexact Ht
    isplitr; · iapply hr; iexact HR
    isplitl [Ht']; · iexact Ht'
    iapply hr'; iexact HR
  iexact Hk

omit [FloatOps F] in
theorem set_slot {s s' : Shape} {sp : Space} {e : EltTy} (M : Memref sig .tc sp s e) (r : Rect s) (hr : ∀ a, r.stride a = 1) (hq : r.shape.Squeezes s') :
    ((M.slice r hr).squeeze s' hq).view.set = M.view.setOn r.set := by
  exact (Memref.set_view_squeeze _ _).trans (View.set_slice _ _)

/-- Loading a slot: what is loaded, shape-cast, is what the slot holds. -/
theorem wp_load_slot {α : Type} {Q : α → sProp 𝕄} {s s' : Shape} {e : EltTy} (M : Memref sig .tc .vmem s e) (r : Rect s) (hr : ∀ a, r.stride a = 1) (hq : r.shape.Squeezes s')
    (hc : r.shape.ShapeCasts s') {hl : M.view.LoadsAt r.toLoadRect} {q : PosShare TreeShare} {X : s'.Idx → Elt F e}
    {p : (r.shape.Idx → Elt F e) → Prog (TpuEff nD τ sig (Elt F) Λ₀ .tc) α} :
    (owns (c : Thread nD τ) ((M.slice r hr).squeeze s' hq) q X : sProp 𝕄)
      ⊢ iprop((∀ v, ⌜shapeCast s' v hc = X⌝ -∗ owns (c : Thread nD τ) ((M.slice r hr).squeeze s' hq) q X
            -∗ wp frame (wpE (defs₀ (F := F)) 𝒱₀ (c : Thread nD τ) none) Set.univ (p v) Q)
          -∗ wp frame (wpE (defs₀ (F := F)) 𝒱₀ (c : Thread nD τ) none) Set.univ (.op (.load M r.toLoadRect hl) p) Q) := by
  unfold owns
  iintro ⟨%f, %hf, H⟩ Hk
  iapply (wp_load 𝒱₀ (c : Thread nD τ) none Set.univ (m := M) (r := r.toLoadRect) (f := f) (q := q)
    (S := ((M.slice r hr).squeeze s' hq).view.set) (by rw [set_slot])) $$ H
  iintro H
  iapply Hk $$ [] [H]
  · ipureintro; rw [← hf]; rfl
  · iexists f
    isplitr; · ipureintro; exact hf
    iexact H

/-- Storing a shape-cast table into a slot. -/
theorem wp_store_slot {α : Type} {Q : α → sProp 𝕄} {s s' : Shape} {e : EltTy} (M : Memref sig .tc .vmem s e) (r : Rect s) (hr : ∀ a, r.stride a = 1) (hq : r.shape.Squeezes s')
    (hc : r.shape.ShapeCasts s') (hc' : s'.ShapeCasts r.shape) {X w : s'.Idx → Elt F e}
    {hx : (M.access r).Stores Finset.univ} {hm} {p : PUnit → Prog (TpuEff nD τ sig (Elt F) Λ₀ .tc) α} :
    (owns (c : Thread nD τ) ((M.slice r hr).squeeze s' hq) fullShare X : sProp 𝕄)
      ⊢ iprop((owns (c : Thread nD τ) ((M.slice r hr).squeeze s' hq) fullShare w
            -∗ wp frame (wpE (defs₀ (F := F)) 𝒱₀ (c : Thread nD τ) none) Set.univ (p ⟨⟩) Q)
          -∗ wp frame (wpE (defs₀ (F := F)) 𝒱₀ (c : Thread nD τ) none) Set.univ (.op (.store M r (shapeCast r.shape w hc') Finset.univ hx hm) p) Q) := by
  unfold owns
  iintro ⟨%f, %hf, H⟩ Hk
  iapply (wp_store 𝒱₀ (c : Thread nD τ) none Set.univ (m := M) (r := r) (Mk := Finset.univ) (f := f)
    (S := ((M.slice r hr).squeeze s' hq).view.set) (by rw [Memref.set_view_squeeze]; exact subset_rfl)) $$ H
  iintro H
  iapply Hk
  iexists _
  isplitr
  · ipureintro; exact store_slot M r hr hq hc hc' f w
  iexact H

end

end Cert.KernelIdeal.TopK
-- ==== Proof.KernelIdeal.Body.lean ====
/-
The kernel's body, followed step by step on one device.
-/
module

public import proofs.«01_k».proof.Proof.KernelIdeal.Steps

@[expose] public section

noncomputable section

namespace Cert.KernelIdeal.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The two stores into the result's block, over contents `f`. -/
def stores (f : (cc0_stg0_0 : Ref sig .tc).ty.Contents (Elt F)) (A B : FVec F S128x8 .f32) : (cc0_stg0_0 : Ref sig .tc).ty.Contents (Elt F) :=
  (outM.access rectO1).write (Elt F) ((outM.access rectO0).write (Elt F) f A Finset.univ) B Finset.univ

/-- The two stores fill the block: what was there before does not matter. -/
theorem stores_all (f g : (cc0_stg0_0 : Ref sig .tc).ty.Contents (Elt F)) (A B : FVec F S128x8 .f32) : stores f A B = stores g A B := by
  funext i
  have hs0 : (outM.access rectO0).set = rectO0.set := View.set_slice_whole _ _
  have hs1 : (outM.access rectO1).set = rectO1.set := View.set_slice_whole _ _
  unfold stores
  by_cases h1 : i ∈ (outM.access rectO1).set
  · obtain ⟨x, -, rfl⟩ := Finset.mem_map.mp h1
    rw [View.write_emb_of_mem _ _ (Finset.mem_univ _), View.write_emb_of_mem _ _ (Finset.mem_univ _)]
  · have off (h : (cc0_stg0_0 : Ref sig .tc).ty.Contents (Elt F)) : (outM.access rectO1).write (Elt F) h B Finset.univ i = h i :=
      View.write_of_not_mem _ _ _ (by rw [View.setOn_univ]; exact h1)
    rw [off, off]
    have h0 : i ∈ (outM.access rectO0).set := by
      rw [hs0]; rw [hs1] at h1
      have := cover_O ▸ Finset.mem_univ i
      exact (Finset.mem_union.mp this).resolve_right h1
    obtain ⟨x, -, rfl⟩ := Finset.mem_map.mp h0
    rw [View.write_emb_of_mem _ _ (Finset.mem_univ _), View.write_emb_of_mem _ _ (Finset.mem_univ _)]

/-- The block of the result a device computes. -/
def outAt (c : Dev nD) : (cc0_stg0_0 : Ref sig .tc).ty.Contents (Elt F) :=
  stores (fun _ => Scalar.ofBits .f32 0#32) (best0 m c) (best1 m c)

/-- The right to pay the duties a device pays. -/
def payToks (c : Dev nD) : sProp 𝕄 :=
  iprop(dutyTok ER (kcell (peer c, 0)) 0 () ∗ dutyTok ER (kcell (c, 1)) 0 () ∗ dutyTok ER (kcell (peer c, 2)) 0 ()
    ∗ dutyTok ER (kcell (c, 3)) 0 () ∗ dutyTok ER (kcell (peer c, 4)) 0 () ∗ dutyTok ER (kcell (c, 5)) 0 () ∗ dutyTok ER (kcell (c, 6)) 0 ())

/-- Its places at its seven cells. -/
def places (c : Dev nD) : sProp 𝕄 :=
  iprop(atPos ER (kcell (c, 0)) 0 ∅ 0 ∗ atPos ER (kcell (c, 1)) 0 ∅ 0 ∗ atPos ER (kcell (c, 2)) 0 ∅ 0 ∗ atPos ER (kcell (c, 3)) 0 ∅ 0
    ∗ atPos ER (kcell (c, 4)) 0 ∅ 0 ∗ atPos ER (kcell (c, 5)) 0 ∅ 0 ∗ atPos ER (kcell (c, 6)) 0 ∅ 0)

/-- Its seven counters, back at zero. -/
def zeros (c : Dev nD) : sProp 𝕄 :=
  iprop(semVal (kcell (c, 0)) 0 ∗ semVal (kcell (c, 1)) 0 ∗ semVal (kcell (c, 2)) 0 ∗ semVal (kcell (c, 3)) 0
    ∗ semVal (kcell (c, 4)) 0 ∗ semVal (kcell (c, 5)) 0 ∗ semVal (kcell (c, 6)) 0)

/-- What the peer and the launch owe it. -/
def due (c : Dev nD) : sProp 𝕄 :=
  iprop(cred (tallyAt (kcell (c, 0)) () 1) ∗ cred (tallyAt (kcell (c, 2)) () NC) ∗ cred (tallyAt (kcell (c, 4)) () NC) ∗ levAts L lv)

/-- A slot at whatever it holds. -/
abbrev some' {s : Shape} (c : Dev nD) (M : Memref sig .tc .vmem s .f32) : sProp 𝕄 := iprop(∃ X, owns (c : Thread nD τ) M fullShare X)

/-- The device's memory, in slots: the two chunks of the argument, and the scratch slots at whatever they hold. -/
def slots (c : Dev nD) : sProp 𝕄 :=
  iprop((rowsPts0 m c ∗ rowsPts1 m c) ∗ (some' c x0 ∗ some' c x1) ∗ (some' c l0 ∗ some' c l1) ∗ landing c)

def bodyPre (K : Dev nD × Fin 7 → ℕ) (c : Dev nD) (W : Waits sig Unit) (g : (cc0_stg0_0 : Ref sig .tc).ty.Contents (Elt F)) : sProp 𝕄 :=
  iprop((records m K ∗ places c ∗ payToks c) ∗ due c ∗ slots m c ∗ owes (c : Thread nD τ) (O₀ c) W
    ∗ (((c : Thread nD τ).loc cc0_stg0_0) ↦{fullShare} g))

def bodyPost (c : Dev nD) : sProp 𝕄 :=
  iprop(zeros c ∗ slots m c ∗ (∃ W, owes (c : Thread nD τ) 0 W) ∗ (((c : Thread nD τ).loc cc0_stg0_0) ↦{fullShare} outAt m c))

set_option maxHeartbeats 1600000 in
/-- From a device's start, its body runs to its end. -/
theorem sound_body (K : Dev nD × Fin 7 → ℕ) (c : Dev nD) (W : Waits sig Unit) (g : (cc0_stg0_0 : Ref sig .tc).ty.Contents (Elt F)) (Kt : PUnit → sProp 𝕄) :
    iprop(bodyPre m K c W g ∗ (bodyPost m c -∗ Kt ⟨⟩))
      ⊢ wp frame (wpE (defs₀ (F := F)) 𝒱₀ c none) Set.univ
          (cc0_body (Memref.whole main_arg0) (Memref.isWhole_whole _) (Memref.whole cc0_stg0_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton]
  unfold k0_part1_skel k0_part2_skel k0_part3_skel k0_part4_skel k0_part5_skel k0_part6_skel k0_part7_skel k0_part8_skel
  simp only [semSignalWord, semWaitWord, Prog.lift, Prog.bind_op, Prog.bind_ret, Prog.pure_eq_ret, wp_deviceId]
  unfold bodyPre places payToks due slots rowsPts0 rowsPts1 landing
  iintro ⟨⟨⟨#HR, ⟨Ha0, Ha1, Ha2, Ha3, Ha4, Ha5, Ha6⟩, Ht0, Ht1, Ht2, Ht3, Ht4, Ht5, Ht6⟩, ⟨Hc0, Hc2, Hc4, #Hlev⟩,
    ⟨⟨Hrow0, Hrow1⟩, ⟨⟨%X0, Hx0⟩, ⟨%X1, Hx1⟩⟩, ⟨⟨%L0, Hl0⟩, ⟨%L1, Hl1⟩⟩, Hland⟩, HO, Hout⟩, Hk⟩
  simp only [dev1_eq c]
  -- the barrier's signal to the peer hands over the landing slots
  iapply (Rounds.wp_signal 𝒱₀ ER (sched m) (c : Thread nD τ) none (dst := (peer c : Thread nD τ)) (κ := K (peer c, 0))
      (d := ()) (duty_mem m (peer c) 0) ((amount_cell m (peer c) 0 ()).trans (by decide)) () (O₁ c) rfl)
    $$ [HO Ht0 Hland]
  · isplitr; · iapply (records_inv m K (peer c, 0)); iexact HR
    isplitl [HO]; · iexact HO
    isplitl [Ht0]; · iexact Ht0
    isplitl [Hland]
    · rw [payload_cell m (peer c) 0]; unfold pay landing; rw [peer_peer]; iexact Hland
    · iapply (records_reached m K (peer c, 0)); iexact HR
  iintro HO
  -- the two loads start
  iapply (wp_fill m K c 5 (src := rows0) (dst := x0) rfl rfl (argOf m c) (by unfold pay rowsPts0; exact BI.Entails.refl _)) $$ [Hrow0 Hx0 Ht5]
  · isplitr; · iexact HR
    isplitl [Hrow0]; · iexact Hrow0
    isplitl [Hx0]; · iexact Hx0
    iexact Ht5
  iintro Hc5
  iapply (wp_fill m K c 6 (src := rows1) (dst := x1) rfl rfl (argOf m c) (by unfold pay rowsPts1; exact BI.Entails.refl _)) $$ [Hrow1 Hx1 Ht6]
  · isplitr; · iexact HR
    isplitl [Hrow1]; · iexact Hrow1
    isplitl [Hx1]; · iexact Hx1
    iexact Ht6
  iintro Hc6
  -- the first chunk is there
  iapply (wp_wait_cell m K c 5 (wpE_waitDma2_eq 𝒱₀ (c : Thread nD τ) none Set.univ) (by exact rfl) (O := O₁ c) (W := W)) $$ [Hc5 HO Ha5]
  · isplitr; · iexact HR
    isplitl [Hc5]; · iexact Hc5
    isplitl [HO]; · iexact HO
    isplitr; · iapply (mayWait_below c (csem 5) (O₁ c) 1 (by decide) (fun g u h => O₁_pos h)); iexact Hlev
    iexact Ha5
  iintro ⟨HO, Hz5, Hp⟩
  unfold pay rowsPts0
  icases Hp with ⟨Hx0, Hrow0⟩
  iapply (wp_load_slot c xM rectX0 (fun _ => rfl) squeezes_S1x128x1024_S128x1024 shapeCasts_S1x128x1024_S128x1024) $$ Hx0
  iintro %v %hv Hx0
  -- its candidates are stored
  iapply (wp_load_slot c locM rectL0 (fun _ => rfl) squeezes_S1x128x8_S128x8 shapeCasts_S1x128x8_S128x8) $$ Hl0
  iintro %v' - Hl0
  rw [pay16_eq v, hv]
  iapply (wp_store_slot c locM rectL0 (fun _ => rfl) squeezes_S1x128x8_S128x8 shapeCasts_S1x128x8_S128x8 shapeCasts_S128x8_S1x128x8
    (w := cand0 m c)) $$ Hl0
  iintro Hl0
  -- the barrier: the peer's landing slots
  iapply (wp_wait_cell m K c 0 (wpE_semWait_eq 𝒱₀ (c : Thread nD τ) none Set.univ) (by decide) (O := O₁ c)) $$ [Hc0 HO Ha0]
  · isplitr; · iexact HR
    isplitl [Hc0]; · iexact Hc0
    isplitl [HO]; · iexact HO
    isplitr; · iapply (mayWait_below c (csem 0) (O₁ c) 1 (by decide) (fun g u h => O₁_pos h)); iexact Hlev
    iexact Ha0
  iintro ⟨HO, Hz0, Hp⟩
  unfold pay landing
  icases Hp with ⟨⟨%Y0, Hr0⟩, ⟨%Y1, Hr1⟩⟩
  -- the first table is sent
  ihave Hl0 := (owns_halves (c : Thread nD τ) l0 fullShare (cand0 m c)).1 $$ Hl0
  icases Hl0 with ⟨Hl0, Hl0'⟩
  unfold O₁
  iapply (wp_send_slot m K c 1 2 (src := l0) (dst := r0) _ (dev2_eq c) rfl rfl rfl rfl rfl (cand0 m c) (BI.Entails.refl _)
      (by unfold pay; rw [peer_peer]) (O₂ c)) $$ [Hl0 Hr0 HO Ht1 Ht2]
  · isplitr; · iexact HR
    isplitl [Hl0]; · iexact Hl0
    isplitl [Hr0]; · iexact Hr0
    isplitl [HO]; · iexact HO
    isplitl [Ht1]; · iexact Ht1
    iexact Ht2
  iintro ⟨Hc1, HO⟩
  -- the second chunk is there
  iapply (wp_wait_cell m K c 6 (wpE_waitDma2_eq 𝒱₀ (c : Thread nD τ) none Set.univ) (by exact rfl) (O := O₂ c)) $$ [Hc6 HO Ha6]
  · isplitr; · iexact HR
    isplitl [Hc6]; · iexact Hc6
    isplitl [HO]; · iexact HO
    isplitr; · iapply (mayWait_below c (csem 6) (O₂ c) 1 (by decide) (fun g u h => O₂_pos h)); iexact Hlev
    iexact Ha6
  iintro ⟨HO, Hz6, Hp⟩
  unfold pay rowsPts1
  icases Hp with ⟨Hx1, Hrow1⟩
  iapply (wp_load_slot c xM rectX1 (fun _ => rfl) squeezes_S1x128x1024_S128x1024 shapeCasts_S1x128x1024_S128x1024) $$ Hx1
  iintro %u %hu Hx1
  iapply (wp_load_slot c locM rectL1 (fun _ => rfl) squeezes_S1x128x8_S128x8 shapeCasts_S1x128x8_S128x8) $$ Hl1
  iintro %u' - Hl1
  rw [pay21_eq u, hu]
  iapply (wp_store_slot c locM rectL1 (fun _ => rfl) squeezes_S1x128x8_S128x8 shapeCasts_S1x128x8_S128x8 shapeCasts_S128x8_S1x128x8
    (w := cand1 m c)) $$ Hl1
  iintro Hl1
  -- the second table is sent
  ihave Hl1 := (owns_halves (c : Thread nD τ) l1 fullShare (cand1 m c)).1 $$ Hl1
  icases Hl1 with ⟨Hl1, Hl1'⟩
  rw [show O₂ c = 0 + tallyAt (kcell (peer c, 4)) () NC from (zero_add _).symm]
  iapply (wp_send_slot m K c 3 4 (src := l1) (dst := r1) _ (dev3_eq c) rfl rfl rfl rfl rfl (cand1 m c) (BI.Entails.refl _)
      (by unfold pay; rw [peer_peer]) 0) $$ [Hl1 Hr1 HO Ht3 Ht4]
  · isplitr; · iexact HR
    isplitl [Hl1]; · iexact Hl1
    isplitl [Hr1]; · iexact Hr1
    isplitl [HO]; · iexact HO
    isplitl [Ht3]; · iexact Ht3
    iexact Ht4
  iintro ⟨Hc3, HO⟩
  -- the peer's first table has landed
  iapply (wp_wait_cell m K c 2 (wpE_waitDma2_eq 𝒱₀ (c : Thread nD τ) none Set.univ) (by exact rfl) (O := 0)) $$ [Hc2 HO Ha2]
  · isplitr; · iexact HR
    isplitl [Hc2]; · iexact Hc2
    isplitl [HO]; · iexact HO
    isplitr; · iapply (mayWait_nothing c (csem 2)); iexact Hlev
    iexact Ha2
  iintro ⟨HO, Hz2, Hr0⟩
  unfold pay
  iapply (wp_load_slot c locM rectL0 (fun _ => rfl) squeezes_S1x128x8_S128x8 shapeCasts_S1x128x8_S128x8) $$ Hl0'
  iintro %a %ha Hl0'
  iapply (wp_load_slot c rcvM rectL0 (fun _ => rfl) squeezes_S1x128x8_S128x8 shapeCasts_S1x128x8_S128x8) $$ Hr0
  iintro %b %hb Hr0
  iapply (wp_load 𝒱₀ (c : Thread nD τ) none Set.univ (m := outM) (Finset.subset_univ _)) $$ Hout; iintro Hout
  rw [pay23_eq a b, ha, hb]
  iapply (wp_store 𝒱₀ (c : Thread nD τ) none Set.univ (m := outM) (r := rectO0) (Mk := Finset.univ) (Finset.subset_univ _)) $$ Hout
  iintro Hout
  -- and its second
  iapply (wp_wait_cell m K c 4 (wpE_waitDma2_eq 𝒱₀ (c : Thread nD τ) none Set.univ) (by exact rfl) (O := 0)) $$ [Hc4 HO Ha4]
  · isplitr; · iexact HR
    isplitl [Hc4]; · iexact Hc4
    isplitl [HO]; · iexact HO
    isplitr; · iapply (mayWait_nothing c (csem 4)); iexact Hlev
    iexact Ha4
  iintro ⟨HO, Hz4, Hr1⟩
  unfold pay
  iapply (wp_load_slot c locM rectL1 (fun _ => rfl) squeezes_S1x128x8_S128x8 shapeCasts_S1x128x8_S128x8) $$ Hl1'
  iintro %a' %ha' Hl1'
  iapply (wp_load_slot c rcvM rectL1 (fun _ => rfl) squeezes_S1x128x8_S128x8 shapeCasts_S1x128x8_S128x8) $$ Hr1
  iintro %b' %hb' Hr1
  iapply (wp_load 𝒱₀ (c : Thread nD τ) none Set.univ (m := outM) (Finset.subset_univ _)) $$ Hout; iintro Hout
  rw [pay31_eq a' b', ha', hb']
  iapply (wp_store 𝒱₀ (c : Thread nD τ) none Set.univ (m := outM) (r := rectO1) (Mk := Finset.univ) (Finset.subset_univ _)) $$ Hout
  iintro Hout
  -- both sends are over
  iapply (wp_wait_cell m K c 1 (wpE_waitDma2_eq 𝒱₀ (c : Thread nD τ) none Set.univ) (by exact rfl) (O := 0)) $$ [Hc1 HO Ha1]
  · isplitr; · iexact HR
    isplitl [Hc1]; · iexact Hc1
    isplitl [HO]; · iexact HO
    isplitr; · iapply (mayWait_nothing c (csem 1)); iexact Hlev
    iexact Ha1
  iintro ⟨HO, Hz1, Hl0⟩
  unfold pay
  iapply (wp_wait_cell m K c 3 (wpE_waitDma2_eq 𝒱₀ (c : Thread nD τ) none Set.univ) (by exact rfl) (O := 0)) $$ [Hc3 HO Ha3]
  · isplitr; · iexact HR
    isplitl [Hc3]; · iexact Hc3
    isplitl [HO]; · iexact HO
    isplitr; · iapply (mayWait_nothing c (csem 3)); iexact Hlev
    iexact Ha3
  iintro ⟨HO, Hz3, Hl1⟩
  unfold pay
  ihave Hl0 := (owns_halves (c : Thread nD τ) l0 fullShare (cand0 m c)).2 $$ [Hl0 Hl0']
  · isplitl [Hl0] <;> iassumption
  ihave Hl1 := (owns_halves (c : Thread nD τ) l1 fullShare (cand1 m c)).2 $$ [Hl1 Hl1']
  · isplitl [Hl1] <;> iassumption
  rw [wp_ret]; imodintro
  iapply Hk
  unfold bodyPost zeros slots rowsPts0 rowsPts1 landing
  isplitl [Hz0 Hz1 Hz2 Hz3 Hz4 Hz5 Hz6]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    iexact Hz6
  isplitl [Hrow0 Hrow1 Hx0 Hx1 Hl0 Hl1 Hr0 Hr1]
  · isplitl [Hrow0 Hrow1]
    · isplitl [Hrow0] <;> iassumption
    isplitl [Hx0 Hx1]
    · isplitl [Hx0]
      · iexists _; iexact Hx0
      · iexists _; iexact Hx1
    isplitl [Hl0 Hl1]
    · isplitl [Hl0]
      · iexists _; iexact Hl0
      · iexists _; iexact Hl1
    isplitl [Hr0]
    · iexists _; iexact Hr0
    · iexists _; iexact Hr1
  isplitl [HO]
  · iexists _; iexact HO
  rw [show outAt m c = stores g (best0 m c) (best1 m c) from stores_all _ _ _ _]
  iexact Hout

end Cert.KernelIdeal.TopK
-- ==== Proof.KernelIdeal.Start.lean ====
/-
What a device has at launch and at the end: its memory cut into the slots the body works on and put
together again, and the tokens and records of the protocol dealt to the devices.
-/
module

public import proofs.«01_k».proof.Proof.KernelIdeal.Body
public import proofs.«01_k».proof.Proof.Gen.KernelIdeal.Launch

@[expose] public section

noncomputable section

namespace Cert.KernelIdeal.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Memory in slots -/

/-- The scratch buffers, at whatever they hold. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The device's block of the argument, as launched. -/
def argPts (c : Dev nD) : sProp 𝕄 := ((c : Thread nD τ).loc main_arg0) ↦{fullShare} argOf m c

omit [FloatOps F] in
/-- A buffer cut in two. -/
theorem cut {ℓ : Loc nD τ sig} {I J : Finset (Idx ℓ)} (hd : Disjoint I J) (hc : I ∪ J = Finset.univ) (f : Buf (Elt F) ℓ) :
    (ℓ ↦{fullShare} f : sProp 𝕄) ⊢ iprop((ℓ ↦[I]{fullShare} f) ∗ (ℓ ↦[J]{fullShare} f)) := by
  rw [← hc]; exact (pointsTo_union hd).1

omit [FloatOps F] in
/-- And its two pieces joined. -/
theorem joined {ℓ : Loc nD τ sig} {I J : Finset (Idx ℓ)} (hd : Disjoint I J) (hc : I ∪ J = Finset.univ) (f g : Buf (Elt F) ℓ) :
    iprop((ℓ ↦[I]{fullShare} f) ∗ (ℓ ↦[J]{fullShare} g)) ⊢ (∃ h : Buf (Elt F) ℓ, ℓ ↦{fullShare} h : sProp 𝕄) := by
  have h := pointsTo_join (q := fullShare) (f := f) (g := g) (Ix := Unit) (Val := Elt F) (Name := ℕ) (U := UU) (Lvl := ℕ) hd
  rw [hc] at h
  iintro H
  iexists _
  iapply h; iexact H

/-- In a whole buffer, the elements of a rectangle are the rectangle's. -/
theorem on_whole {κ : Kind} (b : Ref sig κ) (r : Rect b.ty.shape) : (Memref.whole b).view.setOn r.set = r.set :=
  (View.set_slice (View.whole b) r).symm.trans (View.set_slice_whole b r)

section
variable (c : Dev nD) {s s' : Shape} (M : Memref sig .tc .vmem s .f32) (r r' : Rect s) (hr : ∀ a, r.stride a = 1) (hr' : ∀ a, r'.stride a = 1)
  (hq : r.shape.Squeezes s') (hq' : r'.shape.Squeezes s')

omit [FloatOps F] in
/-- A buffer gives the two slots that split it, -/
theorem slots_of_buf (hd : Disjoint (M.view.setOn r.set) (M.view.setOn r'.set)) (hc : M.view.setOn r.set ∪ M.view.setOn r'.set = Finset.univ)
    (f : Buf (Elt F) (M.view.loc (c : Thread nD τ))) :
    (M.view.loc (c : Thread nD τ) ↦{fullShare} f : sProp 𝕄)
      ⊢ iprop(some' c ((M.slice r hr).squeeze s' hq) ∗ some' c ((M.slice r' hr').squeeze s' hq')) := by
  have h0 := owns_intro (Ix := Unit) (Val := Elt F) (Name := ℕ) (U := UU) (Lvl := ℕ) (c : Thread nD τ) ((M.slice r hr).squeeze s' hq) fullShare f
  have h1 := owns_intro (Ix := Unit) (Val := Elt F) (Name := ℕ) (U := UU) (Lvl := ℕ) (c : Thread nD τ) ((M.slice r' hr').squeeze s' hq') fullShare f
  rw [set_slot] at h0 h1
  iintro H
  ihave H := (cut hd hc f) $$ H
  icases H with ⟨Ha, Hb⟩
  isplitl [Ha]
  · iexists _; iapply h0; iexact Ha
  · iexists _; iapply h1; iexact Hb

omit [FloatOps F] in
/-- and the two slots give it back. -/
theorem buf_of_slots (hd : Disjoint (M.view.setOn r.set) (M.view.setOn r'.set)) (hc : M.view.setOn r.set ∪ M.view.setOn r'.set = Finset.univ) :
    iprop(some' c ((M.slice r hr).squeeze s' hq) ∗ some' c ((M.slice r' hr').squeeze s' hq'))
      ⊢ (∃ f : Buf (Elt F) (M.view.loc (c : Thread nD τ)), M.view.loc (c : Thread nD τ) ↦{fullShare} f : sProp 𝕄) := by
  unfold some' owns
  rw [set_slot, set_slot]
  iintro ⟨⟨%X, %f, -, Ha⟩, ⟨%Y, %g, -, Hb⟩⟩
  iapply (joined (ℓ := M.view.loc (c : Thread nD τ)) hd hc f g)
  isplitl [Ha]; · iexact Ha
  iexact Hb
end

/-- What a device holds outside the body: its block of the argument and its scratch buffers. -/
def held (c : Dev nD) : sProp 𝕄 := iprop(argPts m c ∗ scratch c)

theorem slots_of_held (c : Dev nD) : held m c ⊢ slots m c := by
  unfold held argPts scratch slots rowsPts0 rowsPts1 landing
  rw [set_rows0, set_rows1]
  iintro ⟨Ha, ⟨%f, H0⟩, ⟨%g, H1⟩, ⟨%h, H2⟩⟩
  isplitl [Ha]
  · iapply (cut disj_A cover_A (argOf m c)); iexact Ha
  isplitl [H0]
  · iapply (slots_of_buf c xM rectX0 rectX1 (fun _ => rfl) (fun _ => rfl) _ _ (by rw [on_whole, on_whole]; exact disj_X) (by rw [on_whole, on_whole]; exact cover_X) f); iexact H0
  isplitl [H1]
  · iapply (slots_of_buf c locM rectL0 rectL1 (fun _ => rfl) (fun _ => rfl) _ _ (by rw [on_whole, on_whole]; exact disj_L) (by rw [on_whole, on_whole]; exact cover_L) g); iexact H1
  · iapply (slots_of_buf c rcvM rectL0 rectL1 (fun _ => rfl) (fun _ => rfl) _ _ (by rw [on_whole, on_whole]; exact disj_L) (by rw [on_whole, on_whole]; exact cover_L) h); iexact H2

theorem held_of_slots (c : Dev nD) : slots m c ⊢ held m c := by
  unfold held argPts scratch slots rowsPts0 rowsPts1 landing
  rw [set_rows0, set_rows1]
  have hA := (pointsTo_union (Ix := Unit) (Val := Elt F) (Name := ℕ) (U := UU) (Lvl := ℕ) (ℓ := argM.view.loc (c : Thread nD τ)) (q := fullShare) (f := argOf m c) disj_A).2
  rw [cover_A] at hA
  iintro ⟨Ha, H0, H1, H2⟩
  isplitl [Ha]; · iapply hA; iexact Ha
  isplitl [H0]
  · iapply (buf_of_slots c xM rectX0 rectX1 (fun _ => rfl) (fun _ => rfl) squeezes_S1x128x1024_S128x1024 squeezes_S1x128x1024_S128x1024 (by rw [on_whole, on_whole]; exact disj_X) (by rw [on_whole, on_whole]; exact cover_X)); iexact H0
  isplitl [H1]
  · iapply (buf_of_slots c locM rectL0 rectL1 (fun _ => rfl) (fun _ => rfl) squeezes_S1x128x8_S128x8 squeezes_S1x128x8_S128x8 (by rw [on_whole, on_whole]; exact disj_L) (by rw [on_whole, on_whole]; exact cover_L)); iexact H1
  · iapply (buf_of_slots c rcvM rectL0 rectL1 (fun _ => rfl) (fun _ => rfl) squeezes_S1x128x8_S128x8 squeezes_S1x128x8_S128x8 (by rw [on_whole, on_whole]; exact disj_L) (by rw [on_whole, on_whole]; exact cover_L)); iexact H2

/-! ## Tokens and records -/

/-- The rights a device's own cells mint: one per cell. -/
def minted (c : Dev nD) : sProp 𝕄 := bigSep Finset.univ fun k : Fin 7 => dutyTok ER (kcell (c, k)) 0 ()

theorem kcell_injective : Function.Injective (kcell : Dev nD × Fin 7 → GSem nD τ sig) := by
  rintro ⟨c, k⟩ ⟨c', k'⟩ h
  have h1 : c = c' := congrArg (fun g : GSem nD τ sig => g.1.1) h
  have h2 : k = k' := csem_injective (congrArg Prod.snd h)
  rw [h1, h2]

def allCells : Finset (GSem nD τ sig) := Finset.univ.map ⟨kcell, kcell_injective⟩
def allToks : Finset (GSem nD τ sig × ℕ × Unit) :=
  Finset.univ.map ⟨fun ck : Dev nD × Fin 7 => (kcell ck, 0, ()), fun a b h => kcell_injective (congrArg Prod.fst h)⟩

/-- What a device is dealt at launch: the state of its cells, its places at them and the rights they mint. -/
def dealt (c : Dev nD) : sProp 𝕄 :=
  iprop((bigSep Finset.univ fun k : Fin 7 => roundState ER (sched m) (kcell (c, k)) 0)
    ∗ (bigSep Finset.univ fun k : Fin 7 => iprop(atPos ER (kcell (c, k)) 0 ∅ 0 ∗ reached ER (kcell (c, k)) 0)) ∗ minted c)

/-- What it has once the cells' invariants stand. -/
def ready (c : Dev nD) : sProp 𝕄 := iprop(∃ K, records m K ∗ places c ∗ payToks c)

omit [FloatOps F] in
theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem deal : BI.own (ER (initOf allCells allToks)) ⊢ (|==> bigSep Finset.univ (dealt m) : sProp 𝕄) := by
  have hX (Φ : GSem nD τ sig → sProp 𝕄) : bigSep allCells Φ = bigSep Finset.univ fun c : Dev nD => bigSep Finset.univ fun k : Fin 7 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => minted c := by
    unfold allToks minted; rw [bigSep_map, bigSep_univ_prod]; rfl
  iintro HX
  imod (Rounds.fund ER (sched m) allCells allToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt; simp only [bigSep_sep']
  isplitl [Hst]; · iexact Hst
  isplitl [Hat Hr]
  · isplitl [Hat]; · iexact Hat
    iexact Hr
  iexact Htok

omit [FloatOps F] in
/-- The kernel's own semaphores are the cells 1 to 6, -/
theorem own_sems (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0 ∗ semVal (kcell (c, 6)) 0) := by
  rw [Pipeline.ownSems0_eq_of_list c osem [0, 1, 2, 3, 4, 5] (by decide) (by decide)]; rfl
omit [FloatOps F] in
/-- the barrier is the launch's one unscoped semaphore; -/
theorem other_sems (c : Dev nD) : (unscopedSems0 c : sProp 𝕄) = semVal (kcell (c, 0)) 0 := by
  unfold unscopedSems0; rw [bigSep_eq_bigSepL_of_eq [SemLoc.reg barS] (by decide) (by decide)]; rfl
omit [FloatOps F] in
/-- together they are the seven. -/
theorem all_sems (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [own_sems, other_sems, seven]
  exact sep_comm.1

theorem stand (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ minted c) := by
  unfold dealt
  iintro ⟨Hos, Hus, Hst, Hat, Htok⟩
  ihave Hv := (all_sems (F := F) c) $$ [Hos Hus]
  · isplitl [Hos] <;> iassumption
  imod (show iprop((bigSep Finset.univ fun k : Fin 7 => semVal (kcell (c, k)) 0) ∗ bigSep Finset.univ fun k : Fin 7 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The rights exchanged between peers: a device pays the duties of its peer's barrier and receives. -/
theorem exchanged : (bigSep Finset.univ fun c : Dev nD => (minted c : sProp 𝕄)) ⊢ bigSep Finset.univ fun c : Dev nD => payToks c := by
  have h (k : Fin 7) : (bigSep Finset.univ fun c : Dev nD => (dutyTok ER (kcell (c, k)) 0 () : sProp 𝕄)) = bigSep Finset.univ fun c : Dev nD => dutyTok ER (kcell (peer c, k)) 0 () :=
    bigSep_univ_equiv swap (fun c : Dev nD => (dutyTok ER (kcell (c, k)) 0 () : sProp 𝕄))
  unfold minted payToks
  simp only [seven, bigSep_sep']
  rw [h 0, h 2, h 4]

omit [FloatOps F] in
theorem with_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regrouped :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ minted c) : sProp 𝕄)
      ⊢ bigSep Finset.univ (ready m) := by
  rw [bigSep_sep', bigSep_sep', ← bigSep_univ_prod (fun ck : Dev nD × Fin 7 => iprop(∃ κ : ℕ, cellInv ER (sched m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (sched m) κ (kcell ck) : sProp 𝕄))) $$ HI
  icases HK with ⟨%K, #HI⟩
  ihave Htk := (exchanged (F := F)) $$ Htok
  iapply (with_each (R := records m K) (Φ := fun c => iprop(places c ∗ payToks c)) fun c _ => show iprop(records m K ∗ places c ∗ payToks c) ⊢ ready m c from by
    unfold ready; iintro H; iexists K; iexact H)
  isplitr
  · unfold records; isplitl; · iexact HI
    iexact HR
  · rw [bigSep_sep']
    isplitl [Hat]
    · iapply (Entails.of_eq (bigSep_congr (s := Finset.univ) fun (c : Dev nD) _ => show (bigSep Finset.univ fun k : Fin 7 => (atPos ER (kcell (c, k)) 0 ∅ 0 : sProp 𝕄)) = places c from by
        unfold places; rw [seven]))
      iexact Hat
    iexact Htk

/-- The launch's global step: every device's semaphores and dealings become its readiness. -/
theorem setup : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (ready m) :=
  ((bigSep_mono fun c _ => stand m c).trans (bigSep_fupd _ _)).trans (BI.fupd_mono (regrouped m))

/-! ## What the devices owe each other at launch -/

/-- What a tally of device `d` towards its peer is at a cell of device `c`. -/
theorem tally_cell (d c : Dev nD) (j k : Fin 7) (n : ℕ) :
    (tallyAt (kcell (peer d, j)) () n : CellTallies nD τ sig Unit) (kcell (c, k)) () = if d = peer c ∧ j = k then n else 0 := by
  rw [tallyAt_apply]
  refine if_congr ⟨fun h => ?_, fun h => ?_⟩ rfl rfl
  · have h' := kcell_injective h.1
    have hc : c = peer d := congrArg Prod.fst h'
    exact ⟨by rw [hc, peer_peer], (congrArg Prod.snd h').symm⟩
  · rw [h.1, h.2, peer_peer]; exact ⟨rfl, rfl⟩

/-- What a device owes a cell of device `c`: what its number says, if it is the peer. -/
theorem owed_cell (d c : Dev nD) (k : Fin 7) (hk : k = 0 ∨ k = 2 ∨ k = 4) : O₀ d (kcell (c, k)) () = if d = peer c then amt k else 0 := by
  unfold O₀ O₁ O₂
  simp only [Pi.add_apply, Finsupp.add_apply, tally_cell]
  by_cases hd : d = peer c
  · rcases hk with rfl | rfl | rfl <;> simp [hd, amt]
  · simp [hd]

theorem launch_cell (c : Dev nD) (k : Fin 7) (hk : k = 0 ∨ k = 2 ∨ k = 4) :
    tallyOn (kcell (c, k)) (launchCredit (Pipeline.owing O₀) 0 (kcell (c, k))) = (tallyAt (kcell (c, k)) () (amt k) : CellTallies nD τ sig Unit) := by
  unfold tallyAt; refine congrArg _ (Finsupp.ext fun u => ?_); cases u
  rw [Pipeline.launchCredit_owing, Finsupp.single_eq_same, Finset.sum_congr rfl fun d _ => owed_cell d c k hk,
    Finset.sum_ite_eq' Finset.univ (peer c) fun _ => amt k, if_pos (Finset.mem_univ _)]

omit [FloatOps F] in
theorem launch_dues (c : Dev nD) :
    (Pipeline.launchCred O₀ c : sProp 𝕄) ⊢ iprop(cred (tallyAt (kcell (c, 0)) () 1) ∗ cred (tallyAt (kcell (c, 2)) () NC) ∗ cred (tallyAt (kcell (c, 4)) () NC)) := by
  have h0 := launch_cell c 0 (.inl rfl)
  have h2 := launch_cell c 2 (.inr (.inl rfl))
  have h4 := launch_cell c 4 (.inr (.inr rfl))
  unfold Pipeline.launchCred
  rw [bigSep_univ_at _ (csem 0), BI.bigSep_erase (show csem 2 ∈ Finset.univ.erase (csem 0) by decide)]
  rw [show cred (tallyAt (kcell (c, 0)) () 1) = (cred (tallyOn (kcell (c, 0)) (launchCredit (Pipeline.owing O₀) 0 (kcell (c, 0)))) : sProp 𝕄) from congrArg cred h0.symm,
    show cred (tallyAt (kcell (c, 2)) () NC) = (cred (tallyOn (kcell (c, 2)) (launchCredit (Pipeline.owing O₀) 0 (kcell (c, 2)))) : sProp 𝕄) from congrArg cred h2.symm,
    show cred (tallyAt (kcell (c, 4)) () NC) = (cred (tallyOn (kcell (c, 4)) (launchCredit (Pipeline.owing O₀) 0 (kcell (c, 4)))) : sProp 𝕄) from congrArg cred h4.symm]
  exact sep_mono_right (sep_mono_right (bigSep_elim (show csem 4 ∈ (Finset.univ.erase (csem 0)).erase (csem 2) by decide)))

end Cert.KernelIdeal.TopK
-- ==== Proof.KernelIdeal.Run.lean ====
/-
The kernel's run: from any memory it ends with the result array at the computed block, the argument as it
was and every semaphore at zero.
-/
module

public import proofs.«01_k».proof.Proof.KernelIdeal.Start
public import proofs.«01_k».proof.Proof.Gen.KernelIdeal.Points
public import Idealize.ShloMosaic.Lib.Pipeline.CollectiveSegs

@[expose] public section

noncomputable section

namespace Cert.KernelIdeal.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What the body starts from besides the scratch buffers. -/
def start (c : Dev nD) : sProp 𝕄 := iprop(ready m c ∗ due c ∗ argPts m c)

/-- Before the body, and after it. -/
def Φ₀ (c : Dev nD) : sProp 𝕄 := iprop(start m c ∗ scratch c)
def Φ₁ (c : Dev nD) : sProp 𝕄 := iprop(zeros c ∗ held m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The staging buffer at contents `X`. -/
abbrev staged (c : Dev nD) (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))

def before' (c : Dev nD) : sProp 𝕄 :=
  iprop(Φ₀ m c ∗ (dats m ρ 0 c).owesAt () t0_0.castSucc ∗ (∃ d, staged c ((dats m ρ 0 c).before (0 : Fin 1) t0_0 d)))
def after' (c : Dev nD) : sProp 𝕄 :=
  iprop(Φ₁ m c ∗ (dats m ρ 0 c).owesAt () t0_0.succ ∗ staged c (outAt m c))

set_option maxRecDepth 4000 in
/-- The body's obligation to the launch. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show before' m ρ c ⊢ wp frame (wpE (defs₀ (F := F)) 𝒱₀ c none) Set.univ
    (cc0_body (Memref.whole main_arg0) (Memref.isWhole_whole _) (Memref.whole cc0_stg0_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4) (fun _ => after' m ρ c)
  unfold before' Φ₀ start ready Dat.owesAt Pipeline.owesWithin
  rw [show (dats m ρ 0 c).owed t0_0.castSucc = O₀ c from rfl]
  iintro ⟨⟨⟨⟨%K, HK⟩, Hdue, Harg⟩, Hscr⟩, ⟨%W, -, HO⟩, ⟨%d, %g, -, Hout⟩⟩
  ihave Hs := (slots_of_held m c) $$ [Harg Hscr]
  · unfold held; isplitl [Harg] <;> iassumption
  iapply (sound_body m K c W g fun _ => after' m ρ c)
  unfold bodyPre
  isplitr []
  · isplitl [HK]; · iexact HK
    isplitl [Hdue]; · iexact Hdue
    isplitl [Hs]; · iexact Hs
    isplitl [HO] <;> iassumption
  unfold bodyPost after' Φ₁ Dat.owesAt Pipeline.owesWithin
  rw [show (dats m ρ 0 c).owed t0_0.succ = 0 from rfl]
  iintro ⟨Hz, Hs, ⟨%W', HO⟩, Hout⟩
  ihave Hh := (held_of_slots m c) $$ Hs
  isplitl [Hz Hh]
  · isplitl [Hz] <;> iassumption
  isplitl [HO]
  · iexists W'
    isplitr; · ipureintro; exact fun _ _ => Or.inl trivial
    iexact HO
  iexists _; isplitr; · (ipureintro; rfl)
  iexact Hout

/-! ## The launch's side conditions -/

theorem ownSemFacts : Pipeline.OwnSemFacts cfg0.spec osem := by decide

theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), initOf allCells allToks)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready m c)
      ⊢ |={Set.univ}=> iprop(start m c ∗ emp) := by
  rw [Pipeline.unscopedRestP_none, unscopedRest0_eq]
  iintro ⟨Harg, Hlev, Hcr, -, HG⟩
  ihave Hc := (launch_dues (F := F) c) $$ Hcr
  icases Hc with ⟨H0, H2, H4⟩
  imodintro
  unfold start due argPts
  isplitl
  · isplitl [HG]; · iexact HG
    isplitl [H0 H2 H4 Hlev]
    · isplitl [H0]; · iexact H0
      isplitl [H2]; · iexact H2
      isplitl [H4]; · iexact H4
      iexact Hlev
    iexact Harg
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

theorem leave (c : Dev nD) :
    (dats m ρ 0 c).Φ (Fin.last cfg0.N) ⊢ iprop((unscopedSems0 c ∗ argPts m c) ∗ Pipeline.ownSems0 osem c ∗ Pipeline.scopedRest cfg0.spec c) := by
  rw [show (dats m ρ 0 c).Φ (Fin.last cfg0.N) = Φ₁ m c from rfl, scopedRest0_eq, own_sems, other_sems]
  unfold Φ₁ zeros held scratch
  iintro ⟨⟨H0, H⟩, Ha, Hs⟩
  isplitl [H0 Ha]
  · isplitl [H0] <;> iassumption
  isplitl [H]; · iexact H
  iexact Hs

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_below c _ (O₀ c) 0 (by fin_cases w <;> fin_cases s <;> decide) (fun g u h => O₀_pos h)
    · exact mayWait_nothing c _

/-- What a device's end is read from. -/
theorem read_end (c : Dev nD) (s' : Phys nD τ sig (Elt F)) :
    iprop((unscopedSems0 c ∗ argPts m c) ∗ emp ∗ SI s')
      ⊢ (|={Set.univ}=> iprop(⌜s'.mem.mem ((c : Thread nD τ).loc main_arg0) = m ((c : Thread nD τ).loc main_arg0)
            ∧ ∀ sm : SemLoc sig, sm.isScoped .tc = false → s'.mem.sem ((c.tc : Thread nD τ), sm) = 0⌝ ∗ SI s') : sProp 𝕄) := by
  unfold argPts
  iintro ⟨⟨Hu, Ha⟩, -, HSI⟩
  icombine HSI Ha gives %h
  imod (Pipeline.unscopedSems0_read (X := unscopedSems0 c) (c := c) fupd_intro s') $$ [Hu HSI] with ⟨%hz, HSI⟩
  · isplitl [Hu] <;> iassumption
  imodintro
  isplitr
  · ipureintro; exact ⟨Buf.eq_of_forall_mem_univ h, hz⟩
  iexact HSI

/-! ## The run -/

/-- What is read at the end of a run. -/
def Done (r : PUnit × MemSt nD τ sig (Elt F)) : Prop :=
  (∀ c : Dev nD, ∀ w : Fin cfg0.W, r.2.mem ((cfg0.win w).arr.view.loc (c : Thread nD τ)) = (dats m ρ 0 c).arrAt w cfg0.N)
    ∧ (∀ c : Dev nD, r.2.mem ((c : Thread nD τ).loc main_arg0) = m ((c : Thread nD τ).loc main_arg0)) ∧ r.2.sem = fun _ => 0

set_option maxRecDepth 8000 in
/-- The devices run to the end, from any memory with zero counters. -/
theorem run_main : θ_run defs (onTc (τ := τ) (main (F := F))) (s₀ m ρ) (Done m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m) (G' := ready m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := setup m)
    (hA := fun _ _ => rfl) (hpf := fun _ k => k.elim0)
    (X := start m) (Y := fun c => iprop(unscopedSems0 c ∗ argPts m c)) (Z := fun _ => iprop(emp))
    (hX := start_intro m ρ) (hin := enter m ρ) (hout := leave m ρ)
    (QY := fun c s => s.mem ((c : Thread nD τ).loc main_arg0) = m ((c : Thread nD τ).loc main_arg0)
      ∧ ∀ sm : SemLoc sig, sm.isScoped .tc = false → s.sem ((c.tc : Thread nD τ), sm) = 0)
    (hY := read_end m)
    (hQ := fun _ h hs => ⟨fun c w => (h c).1 w, fun c => (h c).2.2.1, sem_eq_zero hs fun c => (h c).2.2.2⟩)

/-- The result array's one block, the whole array, is what the body left. -/
theorem result_eq (c : Dev nD) : (dats m ρ 0 c).arrAt (0 : Fin 1) cfg0.N = outAt m c := by
  have h : (win0_0.blk (0 : Fin 1)).view.read (Elt F) ((dats m ρ 0 c).arrAt (0 : Fin 1) cfg0.N) = outAt m c := by
    rw [show cfg0.N = ((0 : Fin 1) : Fin cfg0.N).val + 1 from rfl, (dats m ρ 0 c).arrAt_succ (0 : Fin 1) (0 : Fin 1),
      show (cfg0.win (0 : Fin 1)).flush (0 : Fin 1) = true from by decide, if_pos rfl]
    exact View.read_write_univ _ _
  have hz : (fun a => (win0_0.index (0 : Fin 1)) a * main_v1.ty.shape.size a) = fun _ => 0 :=
    funext fun a => by fin_cases a <;> decide
  have hr := fun f => Memref.read_access_unit_zero (Elt F) main_v1 hz (fun a => by fin_cases a <;> decide) f
  rw [← h]
  exact (hr _).symm

/-- The run, read at the buffers of @main. -/
theorem run_end : θ_run defs (onTc (τ := τ) (main (F := F))) ⟨m, fun _ => 0, ρ⟩ (fun r =>
    (∀ c : Dev nD, r.2.mem ((c.tc : Thread nD τ).loc main_v1) = outAt m c ∧ r.2.mem ((c.tc : Thread nD τ).loc main_arg0) = m ((c.tc : Thread nD τ).loc main_arg0))
      ∧ r.2.sem = fun _ => 0) :=
  (θ_run defs _ _).mono (fun _ h => ⟨fun c => ⟨(h.1 c (0 : Fin 1)).trans (result_eq m ρ c), h.2.1 c⟩, h.2.2⟩) (run_main m ρ)

end Cert.KernelIdeal.TopK
-- ==== Proof.Value.Order.lean ====
/- The mathematics of the rounds: a finite set of extended reals, its distinct values taken from the largest down.
   A round gives the largest value left and then strikes out every entry that equals it. What round `k` gives is the
   member with exactly `k` distinct members above it, or minus infinity when there is none. Nothing here speaks of
   the programs. -/
module

public import Mathlib.Data.EReal.Basic
public import Mathlib.Data.Finset.Lattice.Fold
public import Mathlib.Data.Finset.Card
public import Mathlib.Data.Fintype.Basic
public import Mathlib.Data.Finset.Max
public import Mathlib.Order.Interval.Finset.Fin

@[expose] public section

noncomputable section

namespace Cert.TopK

/-- The members of `S` above `y`. -/
def above (S : Finset EReal) (y : EReal) : Finset EReal := S.filter (y < ·)

theorem mem_above {S : Finset EReal} {y z : EReal} : z ∈ above S y ↔ z ∈ S ∧ y < z := Finset.mem_filter

/-- `y` is what round `k` gives on the distinct values `S`: the member with `k` members above it, or minus infinity
    when at most `k` members are above that. -/
def IsRound (S : Finset EReal) (k : Nat) (y : EReal) : Prop :=
  (y = ⊥ ∧ (above S ⊥).card ≤ k) ∨ (y ∈ S ∧ (above S y).card = k)

/-- In either case at most `k` members are above. -/
theorem IsRound.card_le {S : Finset EReal} {k : Nat} {y : EReal} (h : IsRound S k y) : (above S y).card ≤ k := by
  rcases h with ⟨rfl, h⟩ | ⟨_, h⟩
  · exact h
  · exact h.le

/-- A round's value above something is a member with exactly `k` members above. -/
theorem IsRound.of_lt {S : Finset EReal} {k : Nat} {y z : EReal} (h : IsRound S k y) (hz : z < y) :
    y ∈ S ∧ (above S y).card = k := by
  rcases h with ⟨rfl, _⟩ | h
  · exact absurd hz not_lt_bot
  · exact h

/-- Of two rounds' values with the same number neither is below the other. -/
theorem IsRound.not_below {S : Finset EReal} {k : Nat} {y z : EReal} (hy : IsRound S k y) (hz : IsRound S k z) :
    ¬ y < z := fun hlt => by
  obtain ⟨hm, hc⟩ := hz.of_lt hlt
  have hsub : insert z (above S z) ⊆ above S y := by
    intro w hw
    rcases Finset.mem_insert.1 hw with rfl | hw
    · exact mem_above.2 ⟨hm, hlt⟩
    · exact mem_above.2 ⟨(mem_above.1 hw).1, hlt.trans (mem_above.1 hw).2⟩
  have h1 := Finset.card_le_card hsub
  rw [Finset.card_insert_of_notMem fun h => lt_irrefl _ (mem_above.1 h).2] at h1
  have h2 := hy.card_le
  omega

/-- What a round gives is determined by the set and the round's number. -/
theorem IsRound.unique {S : Finset EReal} {k : Nat} {y z : EReal} (hy : IsRound S k y) (hz : IsRound S k z) : y = z :=
  le_antisymm (not_lt.1 (hz.not_below hy)) (not_lt.1 (hy.not_below hz))

/-! ## Striking out the maximum -/

section Strike
variable {ι : Type} [Fintype ι]

/-- The largest entry, minus infinity for none. -/
def top (f : ι → EReal) : EReal := Finset.univ.sup f

/-- The entries with every one that equals the largest replaced by minus infinity. -/
def struck (f : ι → EReal) : ι → EReal := fun i => if f i = top f then ⊥ else f i

/-- The distinct values among the entries. -/
def values (f : ι → EReal) : Finset EReal := Finset.univ.image f

theorem mem_values {f : ι → EReal} {y : EReal} : y ∈ values f ↔ ∃ i, f i = y := by simp [values]

theorem le_top (f : ι → EReal) (i : ι) : f i ≤ top f := Finset.le_sup (Finset.mem_univ i)

/-- A largest entry above minus infinity is one of the entries. -/
theorem top_mem (f : ι → EReal) (h : top f ≠ ⊥) : top f ∈ values f := by
  have hne : (Finset.univ : Finset ι).Nonempty := by
    by_contra he
    rw [Finset.not_nonempty_iff_eq_empty] at he
    exact h (by simp [top, he])
  obtain ⟨i, _, hi⟩ := Finset.exists_mem_eq_sup _ hne f
  exact mem_values.2 ⟨i, hi.symm⟩

/-- After a strike every entry is below the old maximum, if that was above minus infinity. -/
theorem struck_lt (f : ι → EReal) (h : top f ≠ ⊥) (i : ι) : struck f i < top f := by
  unfold struck
  split
  · exact bot_lt_iff_ne_bot.2 h
  · next hne => exact lt_of_le_of_ne (le_top f i) hne

/-- An entry above minus infinity that is left was there before. -/
theorem mem_of_mem_struck {f : ι → EReal} {y : EReal} (h : y ∈ values (struck f)) (hy : y ≠ ⊥) : y ∈ values f := by
  obtain ⟨i, hi⟩ := mem_values.1 h
  unfold struck at hi
  split at hi
  · exact absurd hi.symm hy
  · exact mem_values.2 ⟨i, hi⟩

/-- Above any value below the maximum there were what is there after the strike, and the maximum. -/
theorem above_struck (f : ι → EReal) {y : EReal} (hy : y < top f) :
    above (values f) y = insert (top f) (above (values (struck f)) y) := by
  ext z
  rw [Finset.mem_insert, mem_above, mem_above]
  constructor
  · rintro ⟨hz, hlt⟩
    obtain ⟨i, hi⟩ := mem_values.1 hz
    by_cases e : z = top f
    · exact .inl e
    · exact .inr ⟨mem_values.2 ⟨i, by unfold struck; rw [if_neg (hi ▸ e), hi]⟩, hlt⟩
  · rintro (rfl | ⟨hz, hlt⟩)
    · exact ⟨top_mem f (bot_lt_iff_ne_bot.1 (bot_le.trans_lt hy)), hy⟩
    · exact ⟨mem_of_mem_struck hz (bot_lt_iff_ne_bot.1 (bot_le.trans_lt hlt)), hlt⟩

/-- So the number above goes down by one. -/
theorem card_above_struck (f : ι → EReal) {y : EReal} (hy : y < top f) :
    (above (values f) y).card = (above (values (struck f)) y).card + 1 := by
  rw [above_struck f hy, Finset.card_insert_of_notMem]
  intro h
  obtain ⟨i, hi⟩ := mem_values.1 (mem_above.1 h).1
  exact absurd hi (struck_lt f (bot_lt_iff_ne_bot.1 (bot_le.trans_lt hy)) i).ne

/-- Nothing is above the maximum. -/
theorem above_top (f : ι → EReal) {y : EReal} (hy : top f ≤ y) : above (values f) y = ∅ := by
  rw [Finset.eq_empty_iff_forall_notMem]
  intro z hz
  obtain ⟨i, hi⟩ := mem_values.1 (mem_above.1 hz).1
  exact absurd (mem_above.1 hz).2 (not_lt.2 ((hi ▸ le_top f i).trans hy))

/-- Round `k` after a strike is round `k + 1` before it. -/
theorem IsRound.of_struck {f : ι → EReal} {k : Nat} {y : EReal} (h : IsRound (values (struck f)) k y) :
    IsRound (values f) (k + 1) y := by
  by_cases hb : top f = ⊥
  · -- every entry is minus infinity, and so is `y`
    refine .inl ⟨?_, by rw [above_top f hb.le]; exact Nat.zero_le _⟩
    rcases h with ⟨rfl, _⟩ | ⟨hm, _⟩
    · rfl
    · by_contra hy
      obtain ⟨i, hi⟩ := mem_values.1 (mem_of_mem_struck hm hy)
      exact hy (le_bot_iff.1 (hb ▸ hi ▸ le_top f i))
  · have hbot : (⊥ : EReal) < top f := bot_lt_iff_ne_bot.2 hb
    by_cases hy : y = ⊥
    · subst hy
      refine .inl ⟨rfl, ?_⟩
      rw [card_above_struck f hbot]
      exact Nat.succ_le_succ h.card_le
    · obtain ⟨hm, hc⟩ := h.of_lt (bot_lt_iff_ne_bot.2 hy)
      obtain ⟨i, hi⟩ := mem_values.1 hm
      refine .inr ⟨mem_of_mem_struck hm hy, ?_⟩
      rw [card_above_struck f (hi ▸ struck_lt f hb i), hc]

/-- The largest entry after `k` strikes is what round `k` gives. -/
theorem isRound_top (k : Nat) (f : ι → EReal) : IsRound (values f) k (top (struck^[k] f)) := by
  induction k generalizing f with
  | zero =>
    show IsRound (values f) 0 (top f)
    by_cases hb : top f = ⊥
    · exact .inl ⟨hb, by rw [above_top f hb.le]; exact Nat.zero_le _⟩
    · exact .inr ⟨top_mem f hb, by rw [above_top f le_rfl]; rfl⟩
  | succ k ih => exact (ih (struck f)).of_struck

end Strike

/-! ## Merging two tables of candidates -/

section Merge
variable {n : Nat} {A B : Finset EReal} {a b : Fin n → EReal}

/-- The candidates of two tables. -/
def both (a b : Fin n → EReal) : Finset EReal := values a ∪ values b

/-- A candidate is minus infinity or one of the values it was chosen from. -/
theorem mem_of_mem_both (ha : ∀ k, IsRound A k.val (a k)) (hb : ∀ k, IsRound B k.val (b k)) {y : EReal}
    (h : y ∈ both a b) (hy : y ≠ ⊥) : y ∈ A ∪ B := by
  rcases Finset.mem_union.1 h with h | h
  · obtain ⟨k, rfl⟩ := mem_values.1 h
    exact Finset.mem_union_left _ ((ha k).of_lt (bot_lt_iff_ne_bot.2 hy)).1
  · obtain ⟨k, rfl⟩ := mem_values.1 h
    exact Finset.mem_union_right _ ((hb k).of_lt (bot_lt_iff_ne_bot.2 hy)).1

/-- A value of one part with fewer than `n` values of a larger set above it is among that part's candidates. -/
theorem mem_candidates {S U : Finset EReal} {s : Fin n → EReal} (hs : ∀ k, IsRound S k.val (s k)) (hSU : S ⊆ U)
    {y : EReal} (hy : y ∈ S) (hc : (above U y).card < n) : y ∈ values s := by
  have hle : (above S y).card ≤ (above U y).card := Finset.card_le_card (Finset.filter_subset_filter _ hSU)
  exact mem_values.2 ⟨⟨_, hle.trans_lt hc⟩, (hs _).unique (.inr ⟨hy, rfl⟩)⟩

/-- A value with fewer than `n` values above it is a candidate. -/
theorem mem_both (ha : ∀ k, IsRound A k.val (a k)) (hb : ∀ k, IsRound B k.val (b k)) {y : EReal}
    (hy : y ∈ A ∪ B) (hc : (above (A ∪ B) y).card < n) : y ∈ both a b := by
  rcases Finset.mem_union.1 hy with h | h
  · exact Finset.mem_union_left _ (mem_candidates ha Finset.subset_union_left h hc)
  · exact Finset.mem_union_right _ (mem_candidates hb Finset.subset_union_right h hc)

/-- Above a value with fewer than `n` candidates above it there are exactly those candidates. -/
theorem above_both (ha : ∀ k, IsRound A k.val (a k)) (hb : ∀ k, IsRound B k.val (b k)) {y : EReal}
    (hc : (above (both a b) y).card < n) : above (A ∪ B) y = above (both a b) y := by
  refine Finset.Subset.antisymm ?_ fun z hz => ?_
  · by_contra hnot
    -- the largest value above `y` that is no candidate has only candidates above it
    have hne : ((above (A ∪ B) y).filter (· ∉ above (both a b) y)).Nonempty := by
      obtain ⟨z, hz, hz'⟩ := Finset.not_subset.1 hnot
      exact ⟨z, Finset.mem_filter.2 ⟨hz, hz'⟩⟩
    obtain ⟨z, hz, hmax⟩ := Finset.exists_max_image _ id hne
    obtain ⟨hzU, hzC⟩ := Finset.mem_filter.1 hz
    obtain ⟨hzm, hyz⟩ := mem_above.1 hzU
    have hsub : above (A ∪ B) z ⊆ above (both a b) y := by
      intro w hw
      obtain ⟨hwm, hzw⟩ := mem_above.1 hw
      by_contra hwC
      exact absurd hzw (not_lt.2 (hmax w (Finset.mem_filter.2 ⟨mem_above.2 ⟨hwm, hyz.trans hzw⟩, hwC⟩)))
    exact hzC (mem_above.2 ⟨mem_both ha hb hzm ((Finset.card_le_card hsub).trans_lt hc), hyz⟩)
  · obtain ⟨hm, hlt⟩ := mem_above.1 hz
    exact mem_above.2 ⟨mem_of_mem_both ha hb hm (bot_lt_iff_ne_bot.1 (bot_le.trans_lt hlt)), hlt⟩

/-- What round `k` gives on the candidates is what it gives on the values they were chosen from, for `k < n`. -/
theorem IsRound.of_both (ha : ∀ k, IsRound A k.val (a k)) (hb : ∀ k, IsRound B k.val (b k)) {k : Nat} (hk : k < n)
    {y : EReal} (h : IsRound (both a b) k y) : IsRound (A ∪ B) k y := by
  have hab := above_both ha hb (h.card_le.trans_lt hk)
  by_cases hy : y = ⊥
  · subst hy
    exact .inl ⟨rfl, hab ▸ h.card_le⟩
  · obtain ⟨hm, hc⟩ := h.of_lt (bot_lt_iff_ne_bot.2 hy)
    exact .inr ⟨mem_of_mem_both ha hb hm hy, hab ▸ hc⟩

end Merge

/-! ## A row in descending order -/

section Sorted
variable {n : Nat} {f : Fin n → EReal} {σ : Fin n → Fin n}

/-- In a row sorted downwards, what stands above the entry at place `j` stands at one of the places before it. -/
theorem above_sorted (hσ : Function.Surjective σ) (hf : ∀ i j, i < j → f (σ j) ≤ f (σ i)) (j : Fin n) :
    above (values f) (f (σ j)) ⊆ (Finset.univ.filter fun i : Fin n => i < j).image fun i => f (σ i) := by
  intro z hz
  obtain ⟨hm, hlt⟩ := mem_above.1 hz
  obtain ⟨p, rfl⟩ := mem_values.1 hm
  obtain ⟨i, rfl⟩ := hσ p
  refine Finset.mem_image.2 ⟨i, Finset.mem_filter.2 ⟨Finset.mem_univ i, ?_⟩, rfl⟩
  by_contra hij
  rcases (not_lt.1 hij).lt_or_eq with h | h
  · exact absurd hlt (not_lt.2 (hf j i h))
  · exact absurd hlt (h ▸ lt_irrefl _)

theorem card_before (j : Fin n) : (Finset.univ.filter fun i : Fin n => i < j).card = j.val := by
  rw [show (Finset.univ.filter fun i : Fin n => i < j) = Finset.Iio j by ext; simp, Fin.card_Iio]

/-- At a place where the sorted row holds minus infinity, the round of that number gives minus infinity. -/
theorem isRound_sorted_bot (hσ : Function.Surjective σ) (hf : ∀ i j, i < j → f (σ j) ≤ f (σ i)) (j : Fin n)
    (hj : f (σ j) = ⊥) : IsRound (values f) j.val (f (σ j)) := by
  refine .inl ⟨hj, ?_⟩
  have h := Finset.card_le_card (above_sorted hσ hf j)
  rw [hj] at h
  exact h.trans (Finset.card_image_le.trans (card_before j).le)

/-- At a place up to which the sorted row falls strictly, it holds what the round of that number gives. -/
theorem isRound_sorted (hσ : Function.Surjective σ) (hf : ∀ i j, i < j → f (σ j) ≤ f (σ i)) (j : Fin n)
    (hj : ∀ i k, i < k → k ≤ j → f (σ k) < f (σ i)) : IsRound (values f) j.val (f (σ j)) := by
  refine .inr ⟨mem_values.2 ⟨_, rfl⟩, ?_⟩
  have heq : above (values f) (f (σ j)) = (Finset.univ.filter fun i : Fin n => i < j).image fun i => f (σ i) := by
    refine Finset.Subset.antisymm (above_sorted hσ hf j) fun z hz => ?_
    obtain ⟨i, hi, rfl⟩ := Finset.mem_image.1 hz
    exact mem_above.2 ⟨mem_values.2 ⟨_, rfl⟩, hj i j (Finset.mem_filter.1 hi).2 le_rfl⟩
  rw [heq, Finset.card_image_of_injOn, card_before]
  intro i hi k hk hik
  have hi' : i < j := by simpa using hi
  have hk' : k < j := by simpa using hk
  rcases lt_trichotomy i k with h | h | h
  · exact absurd hik (hj i k h hk'.le).ne'
  · exact h
  · exact absurd hik (hj k i h hi'.le).ne
end Sorted

end Cert.TopK

end
-- ==== Proof.Value.Chunk.lean ====
/- What the kernel computes from one chunk, read row by row at extended reals: a column of row maxima is the
   largest entry of each row, a strike strikes each row, so the eight columns of `top8` are the first eight rounds
   of each row; and `merge8` is the first eight rounds of the sixteen candidates of each row. -/
module

public import proofs.«01_k».proof.Proof.KernelIdeal.Rounds8
public import proofs.«01_k».proof.Proof.Value.Order
public import Idealize.ShloMosaic.Lib.ValueLayoutCasts
public import Idealize.ShloMosaic.Lib.ValueLayout
public import Idealize.ShloMosaic.Lib.Pipeline.Value
public import Idealize.ShloMosaic.PureOps.Ideal.Laws

@[expose] public section

noncomputable section

namespace Cert.TopK

open Idealize.ShloMosaic Idealize.ShloMosaic.ValueIdx
open Cert.KernelIdeal Cert.KernelIdeal.Gen Cert.KernelIdeal.TopK

/-- Row `r` of a table, its entries by column. -/
def row {a b : Nat} (v : FVec Ideal ⟨2, ![a, b]⟩ .f32) (r : Fin a) : Fin b → EReal := fun k => v (ix2 r k)

/-- The word of minus infinity denotes it. -/
theorem word_bot : (FloatOps.ofBits .f32 0xFF800000#32 : Ideal .f32) = (⊥ : EReal) := by
  show Ideal.ieee 8 23 (0xFF800000#32 : BitVec 32) = ⊥
  simp [Ideal.ieee]

/-- The row maxima of a table, as a column, at row `r`: the largest entry of that row. -/
theorem maxima_apply {n : Nat} (v : FVec Ideal ⟨2, ![128, n]⟩ .f32) (h : Shape.Reduces ⟨2, ![128, n]⟩ [1] S128)
    (hφ : FKind.Formats .f32) (hacc : (0xFF800000#32 : BitVec 32) = FKind.maximumf.neutral .f32 hφ)
    (hc : S128.ShapeCasts S128x1) (r : Fin 128) (u : Fin 1) :
    shapeCast S128x1 (multiReduction .maximumf [1] S128 v 0xFF800000#32 h hφ hacc) hc (ix2 r u) = top (row v r) := by
  rw [shapeCast_a_a1_apply, Ideal.multiReduction_maximumf_single, word_bot]
  refine congrArg (Finset.fold max (⊥ : EReal) · Finset.univ) (funext fun k => ?_)
  show v _ = v _
  congr 1
  funext d
  match d with
  | ⟨0, _⟩ => rfl
  | ⟨1, _⟩ => rfl

/-- A table with every entry equal to its row's maximum struck out: row `r` is the struck row. -/
theorem strike_row {n : Nat} (v : FVec Ideal ⟨2, ![128, n]⟩ .f32) (m : FVec Ideal S128x1 .f32)
    (hm : ∀ r u, m (ix2 r u) = top (row v r)) (hb : S128x1.Broadcasts ⟨2, ![128, n]⟩) (r : Fin 128) :
    row (select (cmpf .oeq v (broadcastTo ⟨2, ![128, n]⟩ m hb))
      (broadcast ⟨2, ![128, n]⟩ (Scalar.ofBits .f32 0xFF800000#32)) v) r = struck (row v r) := by
  funext k
  have e : broadcastTo ⟨2, ![128, n]⟩ m hb (ix2 r k) = top (row v r) := by
    rw [broadcastTo_apply m hb (ix2 r k) (ix2 r 0) ?_, hm]
    intro d
    match d with
    | ⟨0, _⟩ => rfl
    | ⟨1, _⟩ => rfl
  show Scalar.select (Ideal.cmp .oeq (v (ix2 r k)) (broadcastTo ⟨2, ![128, n]⟩ m hb (ix2 r k)))
    (FloatOps.ofBits .f32 0xFF800000#32 : Ideal .f32) (v (ix2 r k)) = struck (row v r) k
  rw [e, word_bot]
  unfold struck
  show Scalar.select (BitVec.ofBool (decide (row v r k = top (row v r)))) ⊥ (row v r k) = _
  by_cases hk : row v r k = top (row v r) <;> simp [hk, Scalar.select]

theorem rowMax_apply (v : FVec Ideal S128x1024 .f32) (r : Fin 128) (u : Fin 1) :
    rowMax v (ix2 r u) = top (row v r) := maxima_apply v _ _ _ _ r u

theorem rowMax16_apply (v : FVec Ideal S128x16 .f32) (r : Fin 128) (u : Fin 1) :
    rowMax16 v (ix2 r u) = top (row v r) := maxima_apply v _ _ _ _ r u

/-- After `k` strikes of a chunk its rows have been struck `k` times. -/
theorem row_strike (k : Nat) (v : FVec Ideal S128x1024 .f32) (r : Fin 128) :
    row (strike^[k] v) r = struck^[k] (row v r) := by
  induction k generalizing v with
  | zero => rfl
  | succ k ih =>
    rw [Function.iterate_succ_apply, Function.iterate_succ_apply, ih]
    exact congrArg _ (strike_row v (rowMax v) (rowMax_apply v) _ r)

theorem row_strike16 (k : Nat) (v : FVec Ideal S128x16 .f32) (r : Fin 128) :
    row (strike16^[k] v) r = struck^[k] (row v r) := by
  induction k generalizing v with
  | zero => rfl
  | succ k ih =>
    rw [Function.iterate_succ_apply, Function.iterate_succ_apply, ih]
    exact congrArg _ (strike_row v (rowMax16 v) (rowMax16_apply v) _ r)

/-- Eight columns side by side, read at column `j`: column `j`. -/
theorem columns_apply (f : Fin 8 → FVec Ideal S128x1 .f32)
    (h : Shape.Concatenates [S128x1, S128x1, S128x1, S128x1, S128x1, S128x1, S128x1, S128x1] S128x8 1)
    (r : Fin 128) (j : Fin 8) :
    concatenate S128x8 1 [⟨S128x1, f 0⟩, ⟨S128x1, f 1⟩, ⟨S128x1, f 2⟩, ⟨S128x1, f 3⟩, ⟨S128x1, f 4⟩, ⟨S128x1, f 5⟩,
      ⟨S128x1, f 6⟩, ⟨S128x1, f 7⟩] h (ix2 r j) = f j (ix2 r 0) :=
  concatenate_ofFn_unit_apply (t := S128x8) (s₁ := S128x1) 1 f h rfl rfl (ix2 r j) j rfl (ix2 r 0) fun b hb => by
    match b with
    | ⟨0, _⟩ => rfl
    | ⟨1, _⟩ => exact absurd rfl hb

/-- The tables of eight columns that `top8` and `top8of16` set side by side: column `j` is the maxima after `j` strikes. -/
theorem rounds_apply {s : Shape} (mx : FVec Ideal s .f32 → FVec Ideal S128x1 .f32)
    (st : FVec Ideal s .f32 → FVec Ideal s .f32) (v : FVec Ideal s .f32)
    (h : Shape.Concatenates [S128x1, S128x1, S128x1, S128x1, S128x1, S128x1, S128x1, S128x1] S128x8 1)
    (r : Fin 128) (j : Fin 8) :
    concatenate S128x8 1 [⟨S128x1, mx v⟩, ⟨S128x1, mx (st v)⟩, ⟨S128x1, mx (st (st v))⟩, ⟨S128x1, mx (st (st (st v)))⟩,
      ⟨S128x1, mx (st (st (st (st v))))⟩, ⟨S128x1, mx (st (st (st (st (st v)))))⟩,
      ⟨S128x1, mx (st (st (st (st (st (st v))))))⟩, ⟨S128x1, mx (st (st (st (st (st (st (st v)))))))⟩] h (ix2 r j)
      = mx (st^[j.val] v) (ix2 r 0) :=
  columns_apply (fun n => mx (st^[n.val] v)) h r j

/-- Column `j` of `top8` at row `r` is the row's largest entry after `j` strikes. -/
theorem top8_apply (v : FVec Ideal S128x1024 .f32) (r : Fin 128) (j : Fin 8) :
    top8 v (ix2 r j) = top (struck^[j.val] (row v r)) := by
  rw [← row_strike, ← rowMax_apply]
  exact rounds_apply rowMax strike v _ r j

theorem top8of16_apply (v : FVec Ideal S128x16 .f32) (r : Fin 128) (j : Fin 8) :
    top8of16 v (ix2 r j) = top (struck^[j.val] (row v r)) := by
  rw [← row_strike16, ← rowMax16_apply]
  exact rounds_apply rowMax16 strike16 v _ r j

/-- So it is what round `j` gives on the row. -/
theorem isRound_top8 (v : FVec Ideal S128x1024 .f32) (r : Fin 128) (j : Fin 8) :
    IsRound (values (row v r)) j.val (row (top8 v) r j) := by
  rw [show row (top8 v) r j = _ from top8_apply v r j]
  exact isRound_top _ _

/-- The values in a row of the sixteen candidates are those of the two tables' rows. -/
theorem values_pair (A B : FVec Ideal S128x8 .f32) (h : Shape.Concatenates [S128x8, S128x8] S128x16 1) (r : Fin 128) :
    values (row (concatenate S128x16 1 [⟨S128x8, A⟩, ⟨S128x8, B⟩] h) r) = both (row A r) (row B r) := by
  have hl : ∀ k : Fin 8, row (concatenate S128x16 1 [⟨S128x8, A⟩, ⟨S128x8, B⟩] h) r ⟨k.val, by omega⟩ = row A r k :=
    fun k => concatenate_pair_apply_left (t := S128x16) (s₁ := S128x8) (s₂ := S128x8) 1 A B h _ rfl (ix2 r k) fun b => by
      match b with
      | ⟨0, _⟩ => rfl
      | ⟨1, _⟩ => rfl
  have hr : ∀ k : Fin 8, row (concatenate S128x16 1 [⟨S128x8, A⟩, ⟨S128x8, B⟩] h) r ⟨k.val + 8, by omega⟩ = row B r k :=
    fun k => concatenate_pair_apply_right (t := S128x16) (s₁ := S128x8) (s₂ := S128x8) 1 A B h _ rfl rfl (ix2 r k)
      (fun b hb => by
        match b with
        | ⟨0, _⟩ => rfl
        | ⟨1, _⟩ => exact absurd rfl hb) rfl
  ext y
  unfold both
  rw [Finset.mem_union, mem_values, mem_values, mem_values]
  constructor
  · rintro ⟨i, rfl⟩
    by_cases hi : i.val < 8
    · exact .inl ⟨⟨i.val, hi⟩, (hl ⟨i.val, hi⟩).symm⟩
    · refine .inr ⟨⟨i.val - 8, by omega⟩, (hr ⟨i.val - 8, by omega⟩).symm.trans (congrArg _ (Fin.ext ?_))⟩
      show i.val - 8 + 8 = i.val
      omega
  · rintro (⟨k, rfl⟩ | ⟨k, rfl⟩)
    · exact ⟨_, hl k⟩
    · exact ⟨_, hr k⟩

/-- The merge of the candidates of two chunks: at row `r`, column `j`, what round `j` gives on both rows together. -/
theorem isRound_merge8 (v w : FVec Ideal S128x1024 .f32) (r : Fin 128) (j : Fin 8) :
    IsRound (values (row v r) ∪ values (row w r)) j.val (merge8 (top8 v) (top8 w) (ix2 r j)) := by
  refine IsRound.of_both (fun k => isRound_top8 v r k) (fun k => isRound_top8 w r k) j.isLt ?_
  unfold merge8
  rw [top8of16_apply, ← values_pair]
  exact isRound_top _ _

end Cert.TopK

end
-- ==== Proof.Value.Result.lean ====
/- What the result array of a device holds, at extended reals: at row `r`, column `j`, what round `j` gives on row `r`
   of the device's own block together with row `r` of its partner's. With the two blocks cut from one array of 2048
   columns, that is what round `j` gives on row `r` of the whole array, whichever device is asked. -/
module

public import proofs.«01_k».proof.Proof.KernelIdeal.Run
public import proofs.«01_k».proof.Proof.Value.Chunk
public import Idealize.ShloMosaic.Lib.Layout
public import Idealize.ShloMosaic.Lib.LayoutAt

@[expose] public section

noncomputable section

namespace Cert.TopK

open Idealize.ShloMosaic Idealize.ShloMosaic.ValueIdx Idealize.SL.Sem
open Cert.KernelIdeal Cert.KernelIdeal.Gen Cert.KernelIdeal.TopK

variable (m : (ℓ : Loc nD τ sig) → Buf (Elt Ideal) ℓ)

/-- A device's block of the argument. -/
def arg (c : Dev nD) : FVec Ideal S256x1024 .f32 := argOf m c

/-- Row `r` of the first chunk is row `r` of the block, -/
theorem row_chunk0 (c : Dev nD) (r : Fin 128) : row (chunk0 m c) r = row (arg m c) ⟨r.val, by omega⟩ := by
  funext k
  show arg m c (rows0.view.emb (ix2 r k)) = arg m c _
  refine congrArg _ (funext fun d => ?_)
  refine Fin.ext ?_
  match d with
  | ⟨0, _⟩ => exact (Nat.zero_add _).trans (Nat.one_mul _)
  | ⟨1, _⟩ => exact (Nat.zero_add _).trans (Nat.one_mul _)

/-- and of the second chunk row `128 + r`. -/
theorem row_chunk1 (c : Dev nD) (r : Fin 128) : row (chunk1 m c) r = row (arg m c) ⟨128 + r.val, by omega⟩ := by
  funext k
  show arg m c (rows1.view.emb (ix2 r k)) = arg m c _
  refine congrArg _ (funext fun d => ?_)
  refine Fin.ext ?_
  match d with
  | ⟨0, _⟩ => exact congrArg (128 + ·) (Nat.one_mul _)
  | ⟨1, _⟩ => exact (Nat.zero_add _).trans (Nat.one_mul _)

/-- The first 128 rows of the two stores, -/
theorem stores_top (f : FVec Ideal S256x8 .f32) (A B : FVec Ideal S128x8 .f32) (r : Fin 128) (j : Fin 8) :
    stores (F := Ideal) f A B (ix2 ⟨r.val, by omega⟩ j) = A (ix2 r j) := by
  have he : (ix2 (n0 := 256) (n1 := 8) ⟨r.val, by omega⟩ j) = (outM.access rectO0).emb (ix2 r j) := by
    funext d
    refine Fin.ext ?_
    match d with
    | ⟨0, _⟩ => exact ((Nat.zero_add _).trans (Nat.one_mul _)).symm
    | ⟨1, _⟩ => exact ((Nat.zero_add _).trans (Nat.one_mul _)).symm
  have hoff : (outM.access rectO0).emb (ix2 r j) ∉ (outM.access rectO1).setOn Finset.univ := by
    rw [View.setOn_univ, show (outM.access rectO1).set = rectO1.set from View.set_slice_whole _ _]
    refine Finset.disjoint_left.1 disj_O ?_
    rw [← show (outM.access rectO0).set = rectO0.set from View.set_slice_whole _ _]
    exact View.emb_mem_set _ _
  rw [he]
  unfold stores
  rw [View.write_of_not_mem _ _ _ hoff, View.write_emb_of_mem _ _ (Finset.mem_univ _)]
  rfl

/-- and the last 128. -/
theorem stores_bottom (f : FVec Ideal S256x8 .f32) (A B : FVec Ideal S128x8 .f32) (r : Fin 128) (j : Fin 8) :
    stores (F := Ideal) f A B (ix2 ⟨128 + r.val, by omega⟩ j) = B (ix2 r j) := by
  have he : (ix2 (n0 := 256) (n1 := 8) ⟨128 + r.val, by omega⟩ j) = (outM.access rectO1).emb (ix2 r j) := by
    funext d
    refine Fin.ext ?_
    match d with
    | ⟨0, _⟩ => exact congrArg (128 + ·) (Nat.one_mul _).symm
    | ⟨1, _⟩ => exact ((Nat.zero_add _).trans (Nat.one_mul _)).symm
  rw [he]
  unfold stores
  rw [View.write_emb_of_mem _ _ (Finset.mem_univ _)]
  rfl

/-- At row `r`, column `j` a device's result is what round `j` gives on row `r` of its own block and its partner's. -/
theorem isRound_outAt (c : Dev nD) (r : Fin 256) (j : Fin 8) :
    IsRound (values (row (arg m c) r) ∪ values (row (arg m (peer c)) r)) j.val (outAt m c (ix2 r j)) := by
  unfold outAt
  by_cases hr : r.val < 128
  · have h := isRound_merge8 (chunk0 m c) (chunk0 m (peer c)) ⟨r.val, hr⟩ j
    rw [row_chunk0, row_chunk0] at h
    rw [show stores _ (best0 m c) (best1 m c) (ix2 r j) = _ from stores_top _ (best0 m c) (best1 m c) ⟨r.val, hr⟩ j]
    exact h
  · obtain ⟨q, rfl⟩ : ∃ q : Fin 128, r = ⟨128 + q.val, Nat.add_lt_add_left q.isLt 128⟩ :=
      ⟨⟨r.val - 128, by omega⟩, Fin.ext (by show r.val = 128 + (r.val - 128); omega)⟩
    have h := isRound_merge8 (chunk1 m c) (chunk1 m (peer c)) q j
    rw [row_chunk1, row_chunk1] at h
    rw [show stores _ (best0 m c) (best1 m c) (ix2 _ j) = _ from stores_bottom _ (best0 m c) (best1 m c) q j]
    exact h

/-- The block of the whole array a device holds: half `c / 2` of the columns. -/
abbrev half (x : FVec Ideal ⟨2, ![256, 2048]⟩ .f32) (c : Dev nD) : FVec Ideal S256x1024 .f32 :=
  Layout.blockN ⟨2, ![256, 1024]⟩ ⟨2, ![256, 2048]⟩ (Layout.meshBlock [2, 2] ![[], [0]] c) x

theorem half_index (c : Dev nD) : Layout.meshLin [2, 2] c.val [0] = c.val / 2 := by revert c; decide

/-- Column `k` of that block is column `1024 (c / 2) + k` of the array. -/
theorem row_half (x : FVec Ideal ⟨2, ![256, 2048]⟩ .f32) (c : Dev nD) (r : Fin 256) (k : Fin 1024) :
    row (half x c) r k = row x r ⟨c.val / 2 * 1024 + k.val, by have : c.val < 4 := c.isLt; omega⟩ := by
  show x _ = x _
  refine congrArg x (funext fun d => Fin.ext ?_)
  match d with
  | ⟨0, _⟩ =>
    show 0 * 256 + r.val = r.val
    omega
  | ⟨1, _⟩ =>
    show Layout.meshLin [2, 2] c.val [0] * 1024 + k.val = c.val / 2 * 1024 + k.val
    rw [half_index]

/-- The values in a row of a device's half and its partner's are those of the whole row. -/
theorem values_halves (x : FVec Ideal ⟨2, ![256, 2048]⟩ .f32) (c : Dev nD) (r : Fin 256) :
    values (row (half x c) r) ∪ values (row (half x (peer c)) r) = values (row x r) := by
  have hp : (peer c).val = (c.val + 2) % 4 := rfl
  have hc : c.val < 4 := c.isLt
  ext y
  rw [Finset.mem_union, mem_values, mem_values, mem_values]
  constructor
  · rintro (⟨k, rfl⟩ | ⟨k, rfl⟩)
    · exact ⟨_, (row_half x c r k).symm⟩
    · exact ⟨_, (row_half x (peer c) r k).symm⟩
  · rintro ⟨i, rfl⟩
    have hi : i.val < 2048 := i.isLt
    by_cases h : i.val / 1024 = c.val / 2
    · refine .inl ⟨⟨i.val % 1024, by omega⟩, (row_half x c r _).trans (congrArg _ (Fin.ext ?_))⟩
      show c.val / 2 * 1024 + i.val % 1024 = i.val
      omega
    · refine .inr ⟨⟨i.val % 1024, by omega⟩, (row_half x (peer c) r _).trans (congrArg _ (Fin.ext ?_))⟩
      show (peer c).val / 2 * 1024 + i.val % 1024 = i.val
      omega

/-- When each device holds its half of `x`, the result of every device at row `r`, column `j` is what round `j` gives
    on row `r` of `x`. -/
theorem isRound_result (x : FVec Ideal ⟨2, ![256, 2048]⟩ .f32) (hx : ∀ c, arg m c = half x c) (c : Dev nD)
    (r : Fin 256) (j : Fin 8) : IsRound (values (row x r)) j.val (outAt m c (ix2 r j)) := by
  have h := isRound_outAt m c r j
  rw [hx c, hx (peer c), values_halves] at h
  exact h

end Cert.TopK

end
-- ==== Proof.Value.Sorted.lean ====
/- The order in which the reference takes a row: its argsort of the negated row, read at extended reals, lists the
   row's positions from the largest entry down. -/
module

public import proofs.«01_k».proof.On_settled
public import proofs.«01_k».proof.Proof.Gen.On_settled
public import Idealize.ShloMosaic.Lib.SortFacts
public import Idealize.ShloMosaic.Lib.ValueLayout
public import Idealize.ShloMosaic.PureOps.Ideal.Laws

@[expose] public section

noncomputable section

namespace Cert.TopK

open Idealize.ShloMosaic Idealize.ShloMosaic.ValueIdx
open Cert.On_settled

/-- The word of plus zero denotes it. -/
theorem word_zero : (FloatOps.ofBits .f32 0x00000000#32 : Ideal .f32) = (0 : EReal) := by
  show Ideal.ieee 8 23 (0x00000000#32 : BitVec 32) = 0
  simp [Ideal.ieee]

/-- What the comparator does to each side before it compares — one zero for both zeros, one NaN for all — changes no
    extended real. -/
theorem side_eq (a : EReal) :
    Scalar.select (FloatOps.cmpf (F := Ideal) (φ := .f32) .une a a) (FloatOps.ofBits .f32 0x7FC00000#32 : Ideal .f32)
      (Scalar.select (FloatOps.cmpf (F := Ideal) (φ := .f32) .oeq a (FloatOps.ofBits .f32 0x00000000#32 : Ideal .f32))
        (FloatOps.ofBits .f32 0x00000000#32 : Ideal .f32) a) = a := by
  rw [word_zero]
  have h1 : FloatOps.cmpf (F := Ideal) (φ := .f32) .une a a = 0#1 := by
    show BitVec.ofBool (decide (a ≠ a)) = 0#1
    simp
  have h2 : FloatOps.cmpf (F := Ideal) (φ := .f32) .oeq a (0 : EReal) = BitVec.ofBool (decide (a = 0)) := rfl
  rw [h1, h2]
  by_cases h : a = 0 <;> simp [h, Scalar.select]

/-- The comparator puts one pair before another when its key is the smaller. -/
theorem comparator_eq (l r : EReal × BitVec 32) :
    comparator_f32_i32_d1 (F := Ideal) l r = BitVec.ofBool (decide (l.1 < r.1)) := by
  show FloatOps.cmpfTotal (F := Ideal) (φ := .f32) .lt _ _ = _
  rw [side_eq l.1, side_eq r.1]
  rfl

/-- The order of a row by descending entries, equal entries in the order of their positions. -/
def order (f : Fin 2048 → EReal) : Fin 2048 → Fin 2048 := sortedFrom fun k k' => decide (f k' < f k)

/-- Every position is in the order. -/
theorem order_surjective (f : Fin 2048 → EReal) : Function.Surjective (order f) := sortedFrom_surjective _

/-- A later position in the order holds no larger an entry. -/
theorem order_antitone (f : Fin 2048 → EReal) (i j : Fin 2048) (h : i < j) : f (order f j) ≤ f (order f i) := by
  have e := sortedFrom_noInversion (fun k k' => decide (f k' < f k)) (fun k k' => decide (f k' < f k))
    (fun a b hab => decide_eq_false (not_lt.2 (of_decide_eq_true hab).le)) (fun _ _ hab => hab)
    (fun a b c hab hbc =>
      decide_eq_false (not_lt.2 ((not_lt.1 (of_decide_eq_false hab)).trans (not_lt.1 (of_decide_eq_false hbc)))))
    i j h
  exact not_lt.1 (of_decide_eq_false e)

/-- An entry of a table, moved along its second axis. -/
theorem along_one (r : Fin 256) (k j : Fin 2048) :
    Shape.Idx.along (s := S256x2048) (ix2 r j) 1 k = ix2 r k := by
  funext d
  match d with
  | ⟨0, _⟩ => rfl
  | ⟨1, _⟩ => rfl

/-- The negated table and the table of positions, read there. -/
theorem negf_along (x : FVec Ideal S256x2048 .f32) (r : Fin 256) (k j : Fin 2048) :
    Host.negf x (Shape.Idx.along (s := S256x2048) (ix2 r j) 1 k) = -(x (ix2 r k) : EReal) :=
  congrArg (fun i => -(x i : EReal)) (along_one r k j)

theorem iota_along (r : Fin 256) (k j : Fin 2048) :
    iotaInDim S256x2048 32 1 (Shape.Idx.along (s := S256x2048) (ix2 r j) 1 k) = BitVec.ofNat 32 k.val :=
  congrArg (fun i : S256x2048.Idx => BitVec.ofNat 32 (i 1).val) (along_one r k j)

/-- Whether the sort puts position `k` before position `k'`: whether its entry is the larger. -/
theorem before_eq (x : FVec Ideal S256x2048 .f32) (r : Fin 256) (j k k' : Fin 2048) :
    (comparator_f32_i32_d1 (F := Ideal)
        (Host.negf x (Shape.Idx.along (s := S256x2048) (ix2 r j) 1 k),
          iotaInDim S256x2048 32 1 (Shape.Idx.along (s := S256x2048) (ix2 r j) 1 k))
        (Host.negf x (Shape.Idx.along (s := S256x2048) (ix2 r j) 1 k'),
          iotaInDim S256x2048 32 1 (Shape.Idx.along (s := S256x2048) (ix2 r j) 1 k')) == 1#1)
      = decide (x (ix2 r k') < x (ix2 r k)) := by
  refine (congrArg (· == 1#1) (comparator_eq _ _)).trans ?_
  simp only [negf_along]
  by_cases h : x (ix2 r k') < x (ix2 r k)
  · rw [decide_eq_true h, decide_eq_true (EReal.neg_lt_neg_iff.2 h)]
    rfl
  · rw [decide_eq_false h, decide_eq_false fun hn => h (EReal.neg_lt_neg_iff.1 hn)]
    rfl

/-- The argsort of a negated table, at row `r` and place `j`: the word of the position that stands there. -/
theorem argsort_apply (x : FVec Ideal S256x2048 .f32) (r : Fin 256) (j : Fin 2048) :
    fn_argsort (F := Ideal) (Host.negf x) (ix2 r j) = BitVec.ofNat 32 (order (fun k => x (ix2 r k)) j).val :=
  (iota_along r (sortedFrom (fun k k' : Fin 2048 => comparator_f32_i32_d1 (F := Ideal)
        (Host.negf x (Shape.Idx.along (s := S256x2048) (ix2 r j) 1 k),
          iotaInDim S256x2048 32 1 (Shape.Idx.along (s := S256x2048) (ix2 r j) 1 k))
        (Host.negf x (Shape.Idx.along (s := S256x2048) (ix2 r j) 1 k'),
          iotaInDim S256x2048 32 1 (Shape.Idx.along (s := S256x2048) (ix2 r j) 1 k')) == 1#1) j) j).trans
    (congrArg (fun b => BitVec.ofNat 32 (sortedFrom b j).val) (funext fun k => funext fun k' => before_eq x r j k k'))

end Cert.TopK

end
-- ==== Proof.Value.Taken.lean ====
/- What the reference reads: a table taken along its rows at positions that are in range, so that neither the wrap of
   negative positions nor the fill of positions out of range does anything. -/
module

public import proofs.«01_k».proof.Proof.Value.Sorted
public import Idealize.ShloMosaic.Lib.ReduceAll
public import Idealize.ShloMosaic.Lib.WordCmp
public import Idealize.ShloMosaic.Lib.Pipeline.Value

@[expose] public section

noncomputable section

namespace Cert.TopK

open Idealize.ShloMosaic Idealize.ShloMosaic.ValueIdx Idealize.ShloMosaic.WordCmp
open Cert.On_settled

/-- The gather of the reference, at row `r` and place `j` whose index word is that of a column `p`, reads column `p` of
    that row. -/
theorem gather_at {α : Type} (x : S256x2048.Idx → α) (w : IVec S256x8x1 32) (r : Fin 256) (j : Fin 8) (p : Fin 2048)
    (h : w (ix3 r j 0) = BitVec.ofNat 32 p.val) :
    Host.gather gather_S256x2048_S256x8x1_S256x8_n_1_0_0_1_2_11 x w (ix2 r j) = x (ix2 r p) := by
  have hp : (BitVec.ofNat 32 p.val).toInt.toNat = p.val := by
    rw [toInt_ofNat_of_lt (by have := p.isLt; omega)]
    rfl
  have hi : (gather_S256x2048_S256x8x1_S256x8_n_1_0_0_1_2_11).siIdx (ix2 r j) ⟨0, Nat.one_pos⟩ = ix3 r j 0 :=
    funext fun b => match b with
      | ⟨0, _⟩ => rfl
      | ⟨1, _⟩ => rfl
      | ⟨2, _⟩ => rfl
  have hrow : (gather_S256x2048_S256x8x1_S256x8_n_1_0_0_1_2_11).operandIdx (ix2 r j) w 0 = r := by
    have hm : (0 : Fin 2) ∈ (gather_S256x2048_S256x8x1_S256x8_n_1_0_0_1_2_11).operandBatchingDims :=
      List.mem_singleton.2 rfl
    have hb : (gather_S256x2048_S256x8x1_S256x8_n_1_0_0_1_2_11).batchCoord (ix2 r j) 0 = r.val := by
      rw [GatherDims.batchCoord, dif_pos hm]
      rfl
    refine Fin.ext ?_
    have hs := (gather_S256x2048_S256x8x1_S256x8_n_1_0_0_1_2_11).start_batching (ix2 r j) w 0 hm
    have ho := (gather_S256x2048_S256x8x1_S256x8_n_1_0_0_1_2_11).offCoord_eq_zero (ix2 r j) 0
      fun hk => ((GatherDims.mem_sKept _ _).1 hk).2 hm
    show GatherDims.start _ _ _ _ + GatherDims.batchCoord _ _ _ + GatherDims.offCoord _ _ _ = r.val
    rw [hs, hb, ho]
    omega
  have hcol : (gather_S256x2048_S256x8x1_S256x8_n_1_0_0_1_2_11).operandIdx (ix2 r j) w 1 = p := by
    have hm : (1 : Fin 2) ∈ (gather_S256x2048_S256x8x1_S256x8_n_1_0_0_1_2_11).startIndexMap := List.mem_singleton.2 rfl
    have hs : (gather_S256x2048_S256x8x1_S256x8_n_1_0_0_1_2_11).start (ix2 r j) w 1
        = min (w ((gather_S256x2048_S256x8x1_S256x8_n_1_0_0_1_2_11).siIdx (ix2 r j) ⟨0, Nat.one_pos⟩)).toInt.toNat
          (2048 - 1) := by
      rw [GatherDims.start, dif_pos hm]
      rfl
    rw [hi, h, hp] at hs
    have hb := (gather_S256x2048_S256x8x1_S256x8_n_1_0_0_1_2_11).batchCoord_eq_zero (ix2 r j) 1
      fun hk => absurd (List.mem_singleton.1 hk) (by decide)
    have ho := (gather_S256x2048_S256x8x1_S256x8_n_1_0_0_1_2_11).offCoord_eq_zero (ix2 r j) 1
      fun hk => ((GatherDims.mem_sKept _ _).1 hk).1 (List.mem_singleton.2 rfl)
    refine Fin.ext ?_
    show GatherDims.start _ _ _ _ + GatherDims.batchCoord _ _ _ + GatherDims.offCoord _ _ _ = p.val
    rw [hs, hb, ho]
    have := p.isLt
    omega
  refine congrArg x (funext fun d => ?_)
  match d with
  | ⟨0, _⟩ => exact hrow
  | ⟨1, _⟩ => exact hcol

/-- The word of a column is not negative, and it is in the range of the columns. -/
theorem not_negative (p : Fin 2048) : IntOp.cmpi .slt (BitVec.ofNat 32 p.val) (BitVec.ofNat 32 0) = 0#1 := by
  rw [cmpi_slt_ofNat (a := p.val) (b := 0) (by have := p.isLt; omega) (by decide)]
  rfl

theorem in_range (p : Fin 2048) :
    IntOp.andi (IntOp.cmpi .sge (BitVec.ofNat 32 p.val) 0#32) (IntOp.cmpi .sle (BitVec.ofNat 32 p.val) 2047#32) = 1#1 := by
  have hp : p.val < 2 ^ (32 - 1) := by have := p.isLt; omega
  rw [cmpi_sge_ofNat (a := p.val) (b := 0) hp (by decide), cmpi_sle_ofNat (a := p.val) (b := 2047) hp (by decide),
    decide_eq_true (Nat.zero_le _), decide_eq_true (show p.val ≤ 2047 by have := p.isLt; omega)]
  rfl

/-- A table taken along its rows at positions `p`, given as words. -/
theorem taken_apply (x : FVec Ideal S256x2048 .f32) (w : IVec S256x8 32) (p : Fin 256 → Fin 8 → Fin 2048)
    (h : ∀ r j, w (ix2 r j) = BitVec.ofNat 32 (p r j).val) (r : Fin 256) (j : Fin 8) :
    fn_take_along_axis (F := Ideal) x w (ix2 r j) = x (ix2 r (p r j)) := by
  -- no position is negative, so none is wrapped
  have hw : ∀ r j, select (cmpi .slt w (broadcastInDim S256x8 ![] Facts.bcast_S_S256x8 (constantI S_ 32 0#32)))
      (addi w (broadcastInDim S256x8 ![] Facts.bcast_S_S256x8 (constantI S_ 32 2048#32))) w (ix2 r j)
        = BitVec.ofNat 32 (p r j).val := by
    intro r j
    show Scalar.select (IntOp.cmpi .slt (w (ix2 r j)) (BitVec.ofNat 32 0)) (w (ix2 r j) + 2048#32) (w (ix2 r j)) = _
    rw [h, not_negative]
    rfl
  have hc : ∀ r j (u : Fin 1), shapeCast S256x8x1
      (select (cmpi .slt w (broadcastInDim S256x8 ![] Facts.bcast_S_S256x8 (constantI S_ 32 0#32)))
        (addi w (broadcastInDim S256x8 ![] Facts.bcast_S_S256x8 (constantI S_ 32 2048#32))) w)
      Facts.shapeCasts_S256x8_S256x8x1 (ix3 r j u) = BitVec.ofNat 32 (p r j).val := by
    intro r j u
    rw [shapeCast_apply _ _ (ix3 r j u) (ix2 r j) ?_, hw]
    have hu : u.val = 0 := by omega
    rw [Shape.rowMajor_val_two, Shape.rowMajor_val_three]
    show r.val * 8 + j.val = (r.val * 8 + j.val) * 1 + u.val
    omega
  unfold fn_take_along_axis
  generalize shapeCast S256x8x1 _ Facts.shapeCasts_S256x8_S256x8x1 = q at hc ⊢
  -- every position is in range
  have hr : Host.reduce IntOp.andi (andi (cmpi .sge q (broadcastInDim S256x8x1 ![] Facts.bcast_S_S256x8x1 (constantI S_ 32 0#32)))
      (cmpi .sle q (broadcastInDim S256x8x1 ![0, 1, 2] Facts.bcast_S1x1x1_S256x8x1_0_1_2
        (broadcastInDim S1x1x1 ![2] Facts.bcast_S1_S1x1x1_2 (constantI S1 32 2047#32))))) (constantI S_ 1 1#1)
      Facts.reducesTo_S256x8x1_S256x8_d2 Facts.h_S_ (ix2 r j) = 1#1 := by
    refine Host.reduce_andi_one _ _ _ _ _ rfl fun i => ?_
    rw [eq_ix3 i]
    show IntOp.andi (IntOp.cmpi .sge (q (ix3 (i 0) (i 1) (i 2))) (BitVec.ofNat 32 0))
      (IntOp.cmpi .sle (q (ix3 (i 0) (i 1) (i 2))) (BitVec.ofNat 32 2047)) = 1#1
    exact (congrArg (fun v => IntOp.andi (IntOp.cmpi .sge v 0#32) (IntOp.cmpi .sle v 2047#32))
      (hc (i 0) (i 1) (i 2))).trans (in_range _)
  show Scalar.select _ (Host.gather gather_S256x2048_S256x8x1_S256x8_n_1_0_0_1_2_11 x q (ix2 r j)) _ = _
  rw [gather_at x q r j (p r j) (hc r j 0)]
  exact (congrArg (fun b => Scalar.select b _ _) hr).trans rfl

/-- The reference's table of results: the first eight positions of each row's order, taken. -/
def taken (x : FVec Ideal S256x2048 .f32) : FVec Ideal S256x8 .f32 :=
  fn_take_along_axis (F := Ideal) x
    (extractStridedSlice S256x8 ![0, 0] (fn_argsort (F := Ideal) (Host.negf x)) Facts.slices_S256x2048_S256x8_0_0)

/-- A place among the first eight, as a place in the whole order. -/
def place (j : Fin 8) : Fin 2048 := ⟨j.val, by omega⟩

/-- At row `r` and place `j` the reference holds the entry that stands at place `j` of the row's order. -/
theorem taken_eq (x : FVec Ideal S256x2048 .f32) (r : Fin 256) (j : Fin 8) :
    taken x (ix2 r j) = x (ix2 r (order (fun k => x (ix2 r k)) (place j))) :=
  taken_apply x _ (fun r j => order (fun k => x (ix2 r k)) (place j)) (fun r j =>
    (slice2_axis1_apply 0 _ _ r j (place j) (Nat.zero_add _).symm).trans (argsort_apply x r (place j))) r j

end Cert.TopK

end
-- ==== Proof.Value.Mask.lean ====
/- What the mask says: at a place it selects, either the reference's results have fallen strictly from the first place to
   this one, or the result here is minus infinity. Either way the result is what that round of the kernel gives. -/
module

public import proofs.«01_k».proof.Proof.Value.Taken
public import proofs.«01_k».proof.Proof.Value.Chunk

@[expose] public section

noncomputable section

namespace Cert.TopK

open Idealize.ShloMosaic Idealize.ShloMosaic.ValueIdx
open Cert.On_settled

/-- Whether the first `n` steps of eight values all fall, as the mask computes it: a conjunction, step after step. -/
def fall (s : Fin 8 → EReal) : Nat → BitVec 1
  | 0 => 1#1
  | n + 1 => IntOp.andi (fall s n) (Ideal.cmp .ogt (s (Fin.ofNat 8 n)) (s (Fin.ofNat 8 (n + 1))))

/-- A conjunction of two bits that is one has both of them one. -/
theorem andi_one : ∀ a b : BitVec 1, IntOp.andi a b = 1#1 → a = 1#1 ∧ b = 1#1 := by decide

/-- A disjunction of two bits that is one has one of them one. -/
theorem ori_one : ∀ a b : BitVec 1, IntOp.ori a b = 1#1 → a = 1#1 ∨ b = 1#1 := by decide

/-- If the mask's conjunction holds, every step falls. -/
theorem fall_step (s : Fin 8 → EReal) (n : Nat) (h : fall s n = 1#1) (k : Nat) (hk : k < n) :
    s (Fin.ofNat 8 (k + 1)) < s (Fin.ofNat 8 k) := by
  induction n with
  | zero => omega
  | succ n ih =>
    obtain ⟨h1, h2⟩ := andi_one _ _ h
    by_cases e : k = n
    · subst e
      change BitVec.ofBool (decide (s (Fin.ofNat 8 (k + 1)) < s (Fin.ofNat 8 k))) = 1#1 at h2
      by_cases hd : s (Fin.ofNat 8 (k + 1)) < s (Fin.ofNat 8 k)
      · exact hd
      · exact absurd ((congrArg BitVec.ofBool (decide_eq_false hd)).symm.trans h2) (by decide)
    · exact ih h1 (by omega)

/-- So any later value of those is less than any earlier one. -/
theorem fall_lt (s : Fin 8 → EReal) (n : Nat) (h : fall s n = 1#1) (i k : Nat) (hik : i < k) (hk : k ≤ n) :
    s (Fin.ofNat 8 k) < s (Fin.ofNat 8 i) := by
  induction k with
  | zero => omega
  | succ k ih =>
    have hs := fall_step s n h k (by omega)
    by_cases e : i = k
    · exact e ▸ hs
    · exact hs.trans (ih (by omega) (by omega))

/-- The mask's eight columns side by side, over any eight columns of values: at row `r` and place `j`, the conjunction
    of the first `j` steps of that row. -/
theorem falls_apply (one : IVec S256x1 1) (hone : ∀ i, one i = 1#1) (s : Fin 8 → FVec Ideal S256x1 .f32)
    (h : Shape.Concatenates [S256x1, S256x1, S256x1, S256x1, S256x1, S256x1, S256x1, S256x1] S256x8 1)
    (r : Fin 256) (j : Fin 8) :
    (let v1 := andi one (cmpf .ogt (s 0) (s 1))
     let v2 := andi v1 (cmpf .ogt (s 1) (s 2))
     let v3 := andi v2 (cmpf .ogt (s 2) (s 3))
     let v4 := andi v3 (cmpf .ogt (s 3) (s 4))
     let v5 := andi v4 (cmpf .ogt (s 4) (s 5))
     let v6 := andi v5 (cmpf .ogt (s 5) (s 6))
     let v7 := andi v6 (cmpf .ogt (s 6) (s 7))
     concatenate S256x8 1 [⟨S256x1, one⟩, ⟨S256x1, v1⟩, ⟨S256x1, v2⟩, ⟨S256x1, v3⟩, ⟨S256x1, v4⟩, ⟨S256x1, v5⟩,
      ⟨S256x1, v6⟩, ⟨S256x1, v7⟩] h (ix2 r j)) = fall (fun k => s k (ix2 r 0)) j.val := by
  obtain rfl : one = fun _ => 1#1 := funext hone
  exact concatenate_ofFn_unit_apply (t := S256x8) (s₁ := S256x1) 1
    (fun n : Fin 8 => (fun i => fall (fun k => s k i) n.val : IVec S256x1 1)) h rfl rfl (ix2 r j) j rfl (ix2 r 0)
    fun b hb => by
      match b with
      | ⟨0, _⟩ => rfl
      | ⟨1, _⟩ => exact absurd rfl hb

/-- Column `k` of a table of eight, at row `r`. -/
theorem column_apply (T : FVec Ideal S256x8 .f32) (k : Fin 8) (h : S256x8.Slices ![0, k.val] S256x1) (r : Fin 256) :
    extractStridedSlice S256x1 ![0, k.val] T h (ix2 r 0) = T (ix2 r k) :=
  slice2_axis1_apply k.val T h r 0 k rfl

/-- The mask at row `r` and place `j`: the steps up to `j` of the reference's results, or minus infinity there. -/
theorem mask_apply (x : FVec Ideal S256x2048 .f32) (r : Fin 256) (j : Fin 8) :
    fn (F := Ideal) x (ix2 r j)
      = IntOp.ori (fall (fun k => taken x (ix2 r k)) j.val) (Ideal.cmp .oeq (taken x (ix2 r j)) ⊥) := by
  have e := falls_apply (broadcastInDim S256x1 ![] Facts.bcast_S_S256x1 (constantI S_ 1 1#1)) (fun _ => rfl)
    (fun k => match k with
      | 0 => extractStridedSlice S256x1 ![0, 0] (taken x) Facts.slices_S256x8_S256x1_0_0
      | 1 => extractStridedSlice S256x1 ![0, 1] (taken x) Facts.slices_S256x8_S256x1_0_1
      | 2 => extractStridedSlice S256x1 ![0, 2] (taken x) Facts.slices_S256x8_S256x1_0_2
      | 3 => extractStridedSlice S256x1 ![0, 3] (taken x) Facts.slices_S256x8_S256x1_0_3
      | 4 => extractStridedSlice S256x1 ![0, 4] (taken x) Facts.slices_S256x8_S256x1_0_4
      | 5 => extractStridedSlice S256x1 ![0, 5] (taken x) Facts.slices_S256x8_S256x1_0_5
      | 6 => extractStridedSlice S256x1 ![0, 6] (taken x) Facts.slices_S256x8_S256x1_0_6
      | 7 => extractStridedSlice S256x1 ![0, 7] (taken x) Facts.slices_S256x8_S256x1_0_7)
    Facts.concatenates_S256x1_S256x1_S256x1_S256x1_S256x1_S256x1_S256x1_S256x1_S256x8_d1 r j
  have hb : (broadcastInDim S256x8 ![] Facts.bcast_S_S256x8 (constant (F := Ideal) S_ .f32 0xFF800000#32)) (ix2 r j)
      = (⊥ : EReal) := word_bot
  have hm : fn (F := Ideal) x (ix2 r j) = IntOp.ori _ (Ideal.cmp .oeq (taken x (ix2 r j))
      ((broadcastInDim S256x8 ![] Facts.bcast_S_S256x8 (constant (F := Ideal) S_ .f32 0xFF800000#32)) (ix2 r j))) :=
    congrArg (fun b => IntOp.ori b (Ideal.cmp .oeq (taken x (ix2 r j))
      ((broadcastInDim S256x8 ![] Facts.bcast_S_S256x8 (constant (F := Ideal) S_ .f32 0xFF800000#32)) (ix2 r j)))) e
  rw [hm, hb]
  refine congrArg (fun f => IntOp.ori (fall f j.val) _) (funext fun k => ?_)
  match k with
  | 0 => exact column_apply (taken x) 0 _ r
  | 1 => exact column_apply (taken x) 1 _ r
  | 2 => exact column_apply (taken x) 2 _ r
  | 3 => exact column_apply (taken x) 3 _ r
  | 4 => exact column_apply (taken x) 4 _ r
  | 5 => exact column_apply (taken x) 5 _ r
  | 6 => exact column_apply (taken x) 6 _ r
  | 7 => exact column_apply (taken x) 7 _ r

/-- Where the mask selects, the reference's result is what round `j` gives on the row. -/
theorem isRound_taken (x : FVec Ideal S256x2048 .f32) (r : Fin 256) (j : Fin 8)
    (hm : fn (F := Ideal) x (ix2 r j) = 1#1) : IsRound (values (row x r)) j.val (taken x (ix2 r j)) := by
  rw [mask_apply] at hm
  rw [taken_eq]
  rcases ori_one _ _ hm with h | h
  · refine isRound_sorted (f := row x r) (order_surjective _) (order_antitone _) (place j) fun i k hik hkj => ?_
    have hj : (place j).val = j.val := rfl
    have hk8 : k.val < 8 := by have := j.isLt; have : k.val ≤ (place j).val := hkj; omega
    have hi8 : i.val < 8 := by have : i.val < k.val := hik; omega
    have e := fall_lt _ _ h i.val k.val hik hkj
    rw [show Fin.ofNat 8 i.val = ⟨i.val, hi8⟩ from Fin.ext (Nat.mod_eq_of_lt hi8),
      show Fin.ofNat 8 k.val = ⟨k.val, hk8⟩ from Fin.ext (Nat.mod_eq_of_lt hk8), taken_eq, taken_eq] at e
    exact e
  · refine isRound_sorted_bot (f := row x r) (order_surjective _) (order_antitone _) (place j) ?_
    rw [taken_eq] at h
    change BitVec.ofBool (decide (x (ix2 r (order (fun k => x (ix2 r k)) (place j))) = (⊥ : EReal))) = 1#1 at h
    by_contra hn
    exact absurd ((congrArg BitVec.ofBool (decide_eq_false hn)).symm.trans h) (by decide)

end Cert.TopK

end
-- ==== Proof.Claims.lean ====
/- The claims, one theorem each: the three frames, and the equation of the kernel with the reference where the mask
   selects. -/
module

public import proofs.«01_k».proof.Defs
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value.Result
public import proofs.«01_k».proof.Proof.Value.Mask
public import Idealize.ShloMosaic.Lib.Quiescent

@[expose] public section

noncomputable section

namespace Cert.TopK

open Idealize.ShloMosaic Idealize.ShloMosaic.ValueIdx Idealize.SL.Sem

/-- The kernel over float words ends, leaves its argument alone and every counter at zero. -/
theorem kernel_quiescent : quiescent_Kernel := fun m g _ =>
  (θ_run _ _ _).mono (fun _ h => ⟨fun c => (h.1 c).2, h.2⟩) (Cert.Kernel.TopK.run_end m g)

/-- So does the kernel over extended reals. -/
theorem kernelIdeal_quiescent : quiescent_KernelIdeal := fun m g _ =>
  (θ_run _ _ _).mono (fun _ h => ⟨fun c => (h.1 c).2, h.2⟩) (Cert.KernelIdeal.TopK.run_end m g)

/-- So does the reference, which has no counters. -/
theorem referenceIdeal_quiescent : quiescent_ReferenceIdeal := fun m g _ =>
  (θ_run _ _ _).mono (fun r h => ⟨fun c => (h c).2, sem_eq_zero_of_no_sems (by decide) r.2⟩)
    (Cert.ReferenceIdeal.Value.run m g)

/-- From memories in which each device holds its half of the reference's table, both programs end; at every place the
    mask selects every device's result is the reference's, and the arguments of both are unchanged. -/
theorem kernel_eq_reference : algebraic_KernelIdeal_ReferenceIdeal_on_settled := by
  intro m g m' g' _ hx
  refine ⟨taken (m' (((0 : Dev Cert.ReferenceIdeal.nD).tc : Thread Cert.ReferenceIdeal.nD Cert.ReferenceIdeal.τ).loc
    Cert.ReferenceIdeal.main_arg0)), ?_, ?_⟩
  · refine (θ_run _ _ _).mono (fun r h c => ⟨fun i hi => ?_, (h.1 c).2⟩) (Cert.KernelIdeal.TopK.run_end m g)
    rw [(h.1 c).1, eq_ix2 i]
    rw [eq_ix2 i] at hi
    exact (isRound_result m _ hx c (i 0) (i 1)).unique (isRound_taken _ (i 0) (i 1) hi)
  · exact (θ_run _ _ _).mono (fun r h => ⟨fun i _ => congrFun (h 0).1 i, (h 0).2⟩) (Cert.ReferenceIdeal.Value.run m' g')

end Cert.TopK

end
-- ==== Proof.lean ====
/- The certificate: the facts that the programs and the mask state, each from its generated module, and the five claims,
   proved in Proof/Claims.lean. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.On_settled
public import proofs.«01_k».proof.Proof.Claims

@[expose] public section

noncomputable section

namespace Cert.Proof

/-- Everything the certificate claims. -/
theorem claim : Cert.Claim :=
  ⟨Cert.Kernel.Gen.facts, Cert.KernelIdeal.Gen.facts, Cert.ReferenceIdeal.Gen.facts, Cert.On_settled.Gen.facts,
    Cert.TopK.kernel_quiescent, Cert.TopK.kernelIdeal_quiescent, Cert.TopK.referenceIdeal_quiescent, trivial,
    Cert.TopK.kernel_eq_reference⟩

end Cert.Proof

end
